-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def preserves_Kernel_KernelIdeal : Prop :=
  True

def preserves_Reference_ReferenceIdeal : Prop :=
  IdealRules.named_const.Statement Cert.ReferenceIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S32x1x4096 : Shape := ⟨3, ![32, 1, 4096]⟩
abbrev S4096x4096 : Shape := ⟨2, ![4096, 4096]⟩
abbrev S128x4096 : Shape := ⟨2, ![128, 4096]⟩
abbrev S4096 : Shape := ⟨1, ![4096]⟩
abbrev S32x4096 : Shape := ⟨2, ![32, 4096]⟩
abbrev S1x4096 : Shape := ⟨2, ![1, 4096]⟩
abbrev S32x128 : Shape := ⟨2, ![32, 128]⟩
abbrev S4096x512 : Shape := ⟨2, ![4096, 512]⟩
abbrev S128x512 : Shape := ⟨2, ![128, 512]⟩
abbrev S1x512 : Shape := ⟨2, ![1, 512]⟩
abbrev S32x512 : Shape := ⟨2, ![32, 512]⟩
abbrev S16x256x256 : Shape := ⟨3, ![16, 256, 256]⟩
abbrev S128x32x128 : Shape := ⟨3, ![128, 32, 128]⟩
abbrev S4096x32 : Shape := ⟨2, ![4096, 32]⟩
abbrev S128x32x32 : Shape := ⟨3, ![128, 32, 32]⟩
abbrev S128x32 : Shape := ⟨2, ![128, 32]⟩
abbrev S128x1x32 : Shape := ⟨3, ![128, 1, 32]⟩
abbrev S32x1 : Shape := ⟨2, ![32, 1]⟩
abbrev S1x32x128 : Shape := ⟨3, ![1, 32, 128]⟩
abbrev S32x256 : Shape := ⟨2, ![32, 256]⟩
abbrev S1x32x256 : Shape := ⟨3, ![1, 32, 256]⟩
abbrev S1x256x256 : Shape := ⟨3, ![1, 256, 256]⟩
abbrev S256x256 : Shape := ⟨2, ![256, 256]⟩
abbrev S256x512 : Shape := ⟨2, ![256, 512]⟩
abbrev S1x128 : Shape := ⟨2, ![1, 128]⟩

abbrev nBuf : Space → Nat
  | .hbm => 9
  | .vmem => 14
  | .smem => 0
  | _ => 0

abbrev bufTy : (tb : Table) → Fin (tcTables nBuf tb) → BufTy
  | .hbm, ⟨0, _⟩ => ⟨S32x1x4096, .f32⟩
  | .hbm, ⟨1, _⟩ => ⟨S4096x4096, .fp8e4m3⟩
  | .hbm, ⟨2, _⟩ => ⟨S128x4096, .i8⟩
  | .hbm, ⟨3, _⟩ => ⟨S4096, .f32⟩
  | .hbm, ⟨4, _⟩ => ⟨S32x4096, .f32⟩
  | .hbm, ⟨5, _⟩ => ⟨S1x4096, .f32⟩
  | .hbm, ⟨6, _⟩ => ⟨S32x4096, .f32⟩
  | .hbm, ⟨7, _⟩ => ⟨S32x4096, .fp8e4m3⟩
  | .hbm, ⟨8, _⟩ => ⟨S32x128, .i8⟩
  | .local _ .vmem, ⟨0, _⟩ => ⟨S32x4096, .f32⟩
  | .local _ .vmem, ⟨1, _⟩ => ⟨S4096x512, .fp8e4m3⟩
  | .local _ .vmem, ⟨2, _⟩ => ⟨S4096x512, .fp8e4m3⟩
  | .local _ .vmem, ⟨3, _⟩ => ⟨S128x512, .i8⟩
  | .local _ .vmem, ⟨4, _⟩ => ⟨S128x512, .i8⟩
  | .local _ .vmem, ⟨5, _⟩ => ⟨S1x512, .f32⟩
  | .local _ .vmem, ⟨6, _⟩ => ⟨S1x512, .f32⟩
  | .local _ .vmem, ⟨7, _⟩ => ⟨S32x512, .f32⟩
  | .local _ .vmem, ⟨8, _⟩ => ⟨S32x512, .f32⟩
  | .local _ .vmem, ⟨9, _⟩ => ⟨S32x4096, .fp8e4m3⟩
  | .local _ .vmem, ⟨10, _⟩ => ⟨S32x128, .i8⟩
  | .local _ .vmem, ⟨11, _⟩ => ⟨S16x256x256, .fp8e4m3⟩
  | .local _ .vmem, ⟨12, _⟩ => ⟨S128x32x128, .f32⟩
  | .local _ .vmem, ⟨13, _⟩ => ⟨S128x512, .f32⟩
  | _, _ => ⟨S32x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x128 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
variable {F : FTy → Type} [FloatOps F] [Named F]
def κ : String → Option EReal := fun
  | "ln2" => some ((Real.log 2 : ℝ) : EReal)
  | _ => none
-- ==== Reference.lean ====
abbrev S32x1x4096 : Shape := ⟨3, ![32, 1, 4096]⟩
abbrev S4096x4096 : Shape := ⟨2, ![4096, 4096]⟩
abbrev S128x4096 : Shape := ⟨2, ![128, 4096]⟩
abbrev S4096 : Shape := ⟨1, ![4096]⟩
abbrev S32x4096 : Shape := ⟨2, ![32, 4096]⟩
abbrev S32x128 : Shape := ⟨2, ![32, 128]⟩
abbrev S32x128x32 : Shape := ⟨3, ![32, 128, 32]⟩
abbrev S32x128x1 : Shape := ⟨3, ![32, 128, 1]⟩
abbrev S128x32x4096 : Shape := ⟨3, ![128, 32, 4096]⟩
abbrev S128x32 : Shape := ⟨2, ![128, 32]⟩
abbrev S128x32x1 : Shape := ⟨3, ![128, 32, 1]⟩
abbrev S128x1x4096 : Shape := ⟨3, ![128, 1, 4096]⟩
abbrev S1x4096 : Shape := ⟨2, ![1, 4096]⟩

abbrev nBuf : Space → Nat
  | .hbm => 7
  | .vmem => 7
  | .smem => 0
  | _ => 0

abbrev bufTy : (tb : Table) → Fin (tcTables nBuf tb) → BufTy
  | .hbm, ⟨0, _⟩ => ⟨S32x1x4096, .f32⟩
  | .hbm, ⟨1, _⟩ => ⟨S4096x4096, .fp8e4m3⟩
  | .hbm, ⟨2, _⟩ => ⟨S128x4096, .i8⟩
  | .hbm, ⟨3, _⟩ => ⟨S4096, .f32⟩
  | .hbm, ⟨4, _⟩ => ⟨S32x4096, .f32⟩
  | .hbm, ⟨5, _⟩ => ⟨S32x4096, .fp8e4m3⟩
  | .hbm, ⟨6, _⟩ => ⟨S32x128, .i8⟩
  | .local _ .vmem, ⟨0, _⟩ => ⟨S32x1x4096, .f32⟩
  | .local _ .vmem, ⟨1, _⟩ => ⟨S4096x4096, .fp8e4m3⟩
  | .local _ .vmem, ⟨2, _⟩ => ⟨S128x4096, .i8⟩
  | .local _ .vmem, ⟨3, _⟩ => ⟨S4096, .f32⟩
  | .local _ .vmem, ⟨4, _⟩ => ⟨S32x4096, .f32⟩
  | .local _ .vmem, ⟨5, _⟩ => ⟨S32x4096, .fp8e4m3⟩
  | .local _ .vmem, ⟨6, _⟩ => ⟨S32x128, .i8⟩
  | _, _ => ⟨S32x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S32x1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x4096 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x128 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.BodyK.Base.lean ====
/- What the runs of the kernel's body are stated over: the condition of its one branch, the buffers each grid point
   stages, the scratch buffers, and the invariant that owns them. -/
module

public import proofs.«01_k».proof.Proof.Gen.Kernel.Frame
public import proofs.«01_k».proof.Proof.Gen.Kernel.Skeleton
public import Idealize.ShloMosaic.Lib.Ring
public import Idealize.ShloMosaic.Lib.Tactic
public import Idealize.ShloMosaic.Lib.WordCmp

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-! ## The kernel body on any staging memrefs: a subtype the run finds -/

/-- One staging buffer of output window 4, through which its contents are stated (`View.read_writes_of_cover`: the
    choice does not matter). -/
abbrev VO0_4 : View sig .tc .vmem S32x512 .f32 := (Memref.whole cc0_stg4_0 : Memref sig .tc .vmem S32x512 .f32).view
/-- One staging buffer of output window 5, through which its contents are stated (`View.read_writes_of_cover`: the
    choice does not matter). -/
abbrev VO0_5 : View sig .tc .vmem S32x4096 .fp8e4m3 := (Memref.whole cc0_stg5_0 : Memref sig .tc .vmem S32x4096 .fp8e4m3).view
/-- One staging buffer of output window 6, through which its contents are stated (`View.read_writes_of_cover`: the
    choice does not matter). -/
abbrev VO0_6 : View sig .tc .vmem S32x128 .i8 := (Memref.whole cc0_stg6_0 : Memref sig .tc .vmem S32x128 .i8).view
/-- Each window's current staging memref at point `t`, spelled as the pipeline passes it (`bodyAt0`), and its wholeness. -/
abbrev ms0_0 (t : Fin cfg0.N) : Memref sig .tc .vmem S32x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x4096 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x128 .i8 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S16x256x256 .fp8e4m3 := Memref.whole cc0_scratch0
abbrev scM0_1 : Memref sig .tc .vmem S128x32x128 .f32 := Memref.whole cc0_scratch1
abbrev scM0_2 : Memref sig .tc .vmem S128x512 .f32 := Memref.whole cc0_scratch2
/-- The scratch `arg8` the kernel carries between points, as a view: what it holds is stated through it. -/
abbrev VS0_0 : View sig .tc .vmem S16x256x256 .fp8e4m3 := scM0_0.view
/-- The scratch `arg9` the kernel carries between points, as a view: what it holds is stated through it. -/
abbrev VS0_1 : View sig .tc .vmem S128x32x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The kernel body's branch: at the first point it quantises the activations, elsewhere it does nothing. -/
def quantIf (i : grid0.Coords) (arg1 : Memref sig .tc .vmem S32x4096 .f32) (harg1 : arg1.IsWhole) (arg2 : Memref sig .tc .vmem S4096x512 .fp8e4m3) (harg2 : arg2.IsWhole) (arg3 : Memref sig .tc .vmem S128x512 .i8) (harg3 : arg3.IsWhole) (arg4 : Memref sig .tc .vmem S1x512 .f32) (harg4 : arg4.IsWhole) (arg5 : Memref sig .tc .vmem S32x512 .f32) (harg5 : arg5.IsWhole) (arg6 : Memref sig .tc .vmem S32x4096 .fp8e4m3) (harg6 : arg6.IsWhole) (arg7 : Memref sig .tc .vmem S32x128 .i8) (harg7 : arg7.IsWhole) (arg8 : Memref sig .tc .vmem S16x256x256 .fp8e4m3) (harg8 : arg8.IsWhole) (arg9 : Memref sig .tc .vmem S128x32x128 .f32) (harg9 : arg9.IsWhole) (arg10 : Memref sig .tc .vmem S128x512 .f32) (harg10 : arg10.IsWhole) :
    Prog (TpuEff nD τ sig (Elt F) Λ₀ .tc) PUnit := do
  if k0_h1 : k0_cond1 i = 1#1 then do
    let ⟨v5201, v6177, v6219, cst_3617⟩ : Σ' (v5201 : IVec S32x256 32) (v6177 : FVec F S32x256 .f32) (v6219 : IVec S32x256 1), F .f32 ← k0_part57 i arg1 harg1 arg2 harg2 arg3 harg3 arg4 harg4 arg5 harg5 arg6 harg6 arg7 harg7 arg8 harg8 arg9 harg9 arg10 harg10
    let v6223 : Vec F S1x32x256 .fp8e4m3 ← Prog.lift (.load arg8 (Rect.unit (s := S16x256x256) ![15, 160, 0] S1x32x256.size inb_S16x256x256_S1x32x256_15_160_0).toLoadRect (View.loadsAt_vmem h_S1x32x256))
    Prog.lift (.store arg8 (Rect.unit (s := S16x256x256) ![15, 160, 0] S1x32x256.size inb_S16x256x256_S1x32x256_15_160_0) (k0_pay359 v6177 v6219 cst_3617) Finset.univ (View.stores_vmem h_S1x32x256 (harg8.storeExact_slice rfl _ packedfp8e4m3_S16x256x256_S1x32x256_15_160_0) (fun _ => rfl)) (.inl rfl))
    let v6231 : Vec F S1x32x256 .fp8e4m3 ← Prog.lift (.load arg8 (Rect.unit (s := S16x256x256) ![15, 192, 0] S1x32x256.size inb_S16x256x256_S1x32x256_15_192_0).toLoadRect (View.loadsAt_vmem h_S1x32x256))
    Prog.lift (.store arg8 (Rect.unit (s := S16x256x256) ![15, 192, 0] S1x32x256.size inb_S16x256x256_S1x32x256_15_192_0) (k0_pay360 v5201 v6177) Finset.univ (View.stores_vmem h_S1x32x256 (harg8.storeExact_slice rfl _ packedfp8e4m3_S16x256x256_S1x32x256_15_192_0) (fun _ => rfl)) (.inl rfl))
    let v6239 : Vec F S1x32x256 .fp8e4m3 ← Prog.lift (.load arg8 (Rect.unit (s := S16x256x256) ![15, 224, 0] S1x32x256.size inb_S16x256x256_S1x32x256_15_224_0).toLoadRect (View.loadsAt_vmem h_S1x32x256))
    Prog.lift (.store arg8 (Rect.unit (s := S16x256x256) ![15, 224, 0] S1x32x256.size inb_S16x256x256_S1x32x256_15_224_0) (k0_pay361 v5201 v6177) Finset.univ (View.stores_vmem h_S1x32x256 (harg8.storeExact_slice rfl _ packedfp8e4m3_S16x256x256_S1x32x256_15_224_0) (fun _ => rfl)) (.inl rfl))
    pure ⟨⟩
  else do
    pure ⟨⟩

/-- The statements that follow the branch, up to the first product: the weights' scales are decoded into their scratch
    buffer and the first tiles are loaded. -/
def afterIf (i : grid0.Coords) (arg1 : Memref sig .tc .vmem S32x4096 .f32) (harg1 : arg1.IsWhole) (arg2 : Memref sig .tc .vmem S4096x512 .fp8e4m3) (harg2 : arg2.IsWhole) (arg3 : Memref sig .tc .vmem S128x512 .i8) (harg3 : arg3.IsWhole) (arg4 : Memref sig .tc .vmem S1x512 .f32) (harg4 : arg4.IsWhole) (arg5 : Memref sig .tc .vmem S32x512 .f32) (harg5 : arg5.IsWhole) (arg6 : Memref sig .tc .vmem S32x4096 .fp8e4m3) (harg6 : arg6.IsWhole) (arg7 : Memref sig .tc .vmem S32x128 .i8) (harg7 : arg7.IsWhole) (arg8 : Memref sig .tc .vmem S16x256x256 .fp8e4m3) (harg8 : arg8.IsWhole) (arg9 : Memref sig .tc .vmem S128x32x128 .f32) (harg9 : arg9.IsWhole) (arg10 : Memref sig .tc .vmem S128x512 .f32) (harg10 : arg10.IsWhole) :
    Prog (TpuEff nD τ sig (Elt F) Λ₀ .tc) (Σ' (v26 : FVec F S32x128 .f32) (v27 : FVec F S32x128 .f32) (v28 : FVec F S32x128 .f32) (v29 : FVec F S32x128 .f32) (v31 : FVec F S256x256 .fp8e4m3) (v32 : Vec F S256x512 .fp8e4m3), FVec F S256x512 .f32) := do
  let v3 : Vec F S128x512 .i8 ← Prog.lift (.load arg3 (Rect.unit (s := S128x512) ![0, 0] S128x512.size inb_S128x512_S128x512_0_0).toLoadRect (View.loadsAt_vmem h_S128x512))
  let v23 : Vec F S128x512 .f32 ← Prog.lift (.load arg10 (Rect.unit (s := S128x512) ![0, 0] S128x512.size inb_S128x512_S128x512_0_0).toLoadRect (View.loadsAt_vmem h_S128x512))
  Prog.lift (.store arg10 (Rect.unit (s := S128x512) ![0, 0] S128x512.size inb_S128x512_S128x512_0_0) (k0_pay362 v3) Finset.univ (View.stores_vmem_bits_univ h_S128x512 rfl) (.inl rfl))
  let v30 : Vec F S1x256x256 .fp8e4m3 ← Prog.lift (.load arg8 (Rect.unit (s := S16x256x256) ![0, 0, 0] S1x256x256.size inb_S16x256x256_S1x256x256_0_0_0).toLoadRect (View.loadsAt_vmem h_S1x256x256))
  let v32 : Vec F S256x512 .fp8e4m3 ← Prog.lift (.load arg2 (Rect.unit (s := S4096x512) ![0, 0] S256x512.size inb_S4096x512_S256x512_0_0).toLoadRect (View.loadsAt_vmem h_S256x512))
  have cst_14 : FVec F S256x512 .f32 := constant S256x512 .f32 0x00000000#32
  pure ⟨k0_pay363 (F := F), k0_pay364 (F := F), k0_pay365 (F := F), k0_pay366 (F := F), k0_pay367 v30, v32, cst_14⟩

/-- The printed statements are the branch, then what follows it. -/
theorem part58_eq (i : grid0.Coords) (arg1 : Memref sig .tc .vmem S32x4096 .f32) (harg1 : arg1.IsWhole) (arg2 : Memref sig .tc .vmem S4096x512 .fp8e4m3) (harg2 : arg2.IsWhole) (arg3 : Memref sig .tc .vmem S128x512 .i8) (harg3 : arg3.IsWhole) (arg4 : Memref sig .tc .vmem S1x512 .f32) (harg4 : arg4.IsWhole) (arg5 : Memref sig .tc .vmem S32x512 .f32) (harg5 : arg5.IsWhole) (arg6 : Memref sig .tc .vmem S32x4096 .fp8e4m3) (harg6 : arg6.IsWhole) (arg7 : Memref sig .tc .vmem S32x128 .i8) (harg7 : arg7.IsWhole) (arg8 : Memref sig .tc .vmem S16x256x256 .fp8e4m3) (harg8 : arg8.IsWhole) (arg9 : Memref sig .tc .vmem S128x32x128 .f32) (harg9 : arg9.IsWhole) (arg10 : Memref sig .tc .vmem S128x512 .f32) (harg10 : arg10.IsWhole) :
    k0_part58 (F := F) i arg1 harg1 arg2 harg2 arg3 harg3 arg4 harg4 arg5 harg5 arg6 harg6 arg7 harg7 arg8 harg8 arg9 harg9 arg10 harg10 = (quantIf (F := F) i arg1 harg1 arg2 harg2 arg3 harg3 arg4 harg4 arg5 harg5 arg6 harg6 arg7 harg7 arg8 harg8 arg9 harg9 arg10 harg10 >>= fun _ => afterIf (F := F) i arg1 harg1 arg2 harg2 arg3 harg3 arg4 harg4 arg5 harg5 arg6 harg6 arg7 harg7 arg8 harg8 arg9 harg9 arg10 harg10) := by
  rw [k0_part58_eq_skeleton]
  unfold k0_part58_skel quantIf
  by_cases hc : k0_cond1 i = 1#1
  · simp only [dif_pos hc]
    rw [Prog.bind_assoc]; rfl
  · simp only [dif_neg hc]; rfl

end Cert.Kernel.Body

end
-- ==== Proof.BodyK.QuantRun.lean ====
/- The quantising branch of the kernel's body, run once: from the activations' buffer it fills the codes, the
   scales and the two scratch buffers that later points read. The lists of writes it leaves in the four buffers
   are the witness the run finds. -/
module

public import proofs.«01_k».proof.Proof.BodyK.Base

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 8000000 in
set_option sl_exec.resultNames true in
/-- The branch taken: on whole buffers, the activations' at `x0`, it ends with the activations as they were and the
    four buffers it fills holding the writes listed. -/
noncomputable def quantRun (c : Dev nD) (i : grid0.Coords) (arg1 : Memref sig .tc .vmem S32x4096 .f32) (harg1 : arg1.IsWhole) (arg2 : Memref sig .tc .vmem S4096x512 .fp8e4m3) (harg2 : arg2.IsWhole) (arg3 : Memref sig .tc .vmem S128x512 .i8) (harg3 : arg3.IsWhole) (arg4 : Memref sig .tc .vmem S1x512 .f32) (harg4 : arg4.IsWhole) (arg5 : Memref sig .tc .vmem S32x512 .f32) (harg5 : arg5.IsWhole) (arg6 : Memref sig .tc .vmem S32x4096 .fp8e4m3) (harg6 : arg6.IsWhole) (arg7 : Memref sig .tc .vmem S32x128 .i8) (harg7 : arg7.IsWhole) (arg8 : Memref sig .tc .vmem S16x256x256 .fp8e4m3) (harg8 : arg8.IsWhole) (arg9 : Memref sig .tc .vmem S128x32x128 .f32) (harg9 : arg9.IsWhole) (arg10 : Memref sig .tc .vmem S128x512 .f32) (harg10 : arg10.IsWhole) (hc0 : cond0_0 i) (x0 : Vec F S32x4096 .f32) :
    Σ' (L5 : List (View.Piece (Elt F) S32x4096 .fp8e4m3)), Σ' (L6 : List (View.Piece (Elt F) S32x128 .i8)), Σ' (LS0 : List (View.Piece (Elt F) S16x256x256 .fp8e4m3)), { LS1 : List (View.Piece (Elt F) S128x32x128 .f32) //
      ∀ (E : Set ℕ) (K : PUnit → sProp 𝕄),
        iprop(owns (c : Thread nD τ) arg1 fullShare x0 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (quantIf i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    unfold quantIf
    simp only [k0_part57_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
    unfold owns
    iintro ⟨⟨%f0, %hf0, H0⟩, ⟨%d5, %f5, -, H5⟩, ⟨%d6, %f6, -, H6⟩, ⟨%ds0, %fs0, -, HS0⟩, ⟨%ds1, %fs1, -, HS1⟩, Hk⟩
    obtain rfl := harg1.eq_unread hf0
    sl_exec (disch := first | sl_exact hc0)
    sl_step
    iapply Hk
    isplitl [H0]
    · iexists _; isplitr; · ipureintro; exact harg1.read_unread _
      iexact H0
    isplitl [H5]; · iexists _; iexact H5
    isplitl [H6]; · iexists _; iexact H6
    isplitl [HS0]; · iexists _; iexact HS0
    iexists _; iexact HS1

end Cert.Kernel.Body

end
-- ==== Proof.BodyK.RestRun.lean ====
/- The kernel's body after its branch, run once for both cases: from the weights, their scales, the bias and the two
   scratch buffers the branch filled (at this point or an earlier one), it fills the output block. The list of
   writes it leaves in the output's buffer is the witness the run finds. -/
module

public import proofs.«01_k».proof.Proof.BodyK.Base

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 8000000 in
set_option sl_exec.resultNames true in
/-- Given what the branch does (`h`: from `P` it leaves `S` and the two scratch buffers at `xs0` and `xs1`), the whole
    body from `P` and the other buffers leaves the inputs as they were and the output's buffer holding the writes
    listed. -/
noncomputable def restRun (c : Dev nD) (i : grid0.Coords) (arg1 : Memref sig .tc .vmem S32x4096 .f32) (harg1 : arg1.IsWhole) (arg2 : Memref sig .tc .vmem S4096x512 .fp8e4m3) (harg2 : arg2.IsWhole) (arg3 : Memref sig .tc .vmem S128x512 .i8) (harg3 : arg3.IsWhole) (arg4 : Memref sig .tc .vmem S1x512 .f32) (harg4 : arg4.IsWhole) (arg5 : Memref sig .tc .vmem S32x512 .f32) (harg5 : arg5.IsWhole) (arg6 : Memref sig .tc .vmem S32x4096 .fp8e4m3) (harg6 : arg6.IsWhole) (arg7 : Memref sig .tc .vmem S32x128 .i8) (harg7 : arg7.IsWhole) (arg8 : Memref sig .tc .vmem S16x256x256 .fp8e4m3) (harg8 : arg8.IsWhole) (arg9 : Memref sig .tc .vmem S128x32x128 .f32) (harg9 : arg9.IsWhole) (arg10 : Memref sig .tc .vmem S128x512 .f32) (harg10 : arg10.IsWhole)
    (x1 : Vec F S4096x512 .fp8e4m3) (x2 : Vec F S128x512 .i8) (x3 : Vec F S1x512 .f32) (xs0 : Vec F S16x256x256 .fp8e4m3) (xs1 : Vec F S128x32x128 .f32) :
    Σ' (L4 : List (View.Piece (Elt F) S32x512 .f32)), { LT2 : List (View.Piece (Elt F) S128x512 .f32) //
      ∀ (E : Set ℕ) (K : PUnit → sProp 𝕄) (P S : sProp 𝕄)
        (h : ∀ Q : PUnit → sProp 𝕄, iprop(P ∗ (iprop(S ∗ owns (c : Thread nD τ) arg8 fullShare xs0 ∗ owns (c : Thread nD τ) arg9 fullShare xs1) -∗ Q ⟨⟩))
          ⊢ wp frame (wpE (defs₀ (F := F)) Variants.none c none) E (quantIf i arg1 harg1 arg2 harg2 arg3 harg3 arg4 harg4 arg5 harg5 arg6 harg6 arg7 harg7 arg8 harg8 arg9 harg9 arg10 harg10) Q),
        iprop(P ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg10 fullShare d)
            ∗ (iprop(S ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg8 fullShare xs0 ∗ owns (c : Thread nD τ) arg9 fullShare xs1 ∗ (∃ f, arg10.view.loc (c : Thread nD τ) ↦[arg10.view.set]{fullShare} arg10.view.writes (Elt F) f LT2)) -∗ K ⟨⟩))
          ⊢ wp frame (wpE (defs₀ (F := F)) Variants.none c none) E (cc0_mxfp8_linear i arg1 harg1 arg2 harg2 arg3 harg3 arg4 harg4 arg5 harg5 arg6 harg6 arg7 harg7 arg8 harg8 arg9 harg9 arg10 harg10) K } := by
  refine ⟨?_, ?_, fun E K P S h => ?run⟩
  case run =>
    rw [cc0_mxfp8_linear_eq_skeleton]; unfold cc0_mxfp8_linear_skel
    rw [wp_bind, k0_part173_eq_skeleton]; unfold k0_part173_skel
    rw [wp_bind, part58_eq, wp_bind]; unfold afterIf
    simp only [k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part174_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton]
    unfold owns at h ⊢
    iintro ⟨HP, ⟨%f1, %hf1, H1⟩, ⟨%f2, %hf2, H2⟩, ⟨%f3, %hf3, H3⟩, ⟨%d4, %f4, -, H4⟩, ⟨%ds2, %fs2, -, HS2⟩, Hk⟩
    obtain rfl := harg2.eq_unread hf1; obtain rfl := harg3.eq_unread hf2; obtain rfl := harg4.eq_unread hf3
    iapply (h _)
    isplitl [HP]; · iexact HP
    iintro ⟨HS, ⟨%fs0, %hfs0, HS0⟩, ⟨%fs1, %hfs1, HS1⟩⟩
    obtain rfl := harg8.eq_unread hfs0; obtain rfl := harg9.eq_unread hfs1
    rw [← wp_bind, ← wp_bind]
    sl_exec
    sl_step
    iapply Hk
    isplitl [HS]; · iexact HS
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]
    · iexists _; isplitr; · ipureintro; exact harg8.read_unread _
      iexact HS0
    isplitl [HS1]
    · iexists _; isplitr; · ipureintro; exact harg9.read_unread _
      iexact HS1
    iexists _; iexact HS2

end Cert.Kernel.Body

end
-- ==== Proof.BodyK.Chain.lean ====
/- The accumulation in the kernel's body as a recurrence: every scale block is one and the same step, so the four
   column chunks the body stores are 128 iterations of that step and the bias. -/
module

public import proofs.«01_k».proof.Proof.BodyK.RestRun

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- Rows `32 * (g % 8) …` and columns `128 * j …` of a 256 x 512 tile lie inside it. -/
theorem slices_step (g : ℕ) (j : Fin 4) : S256x512.Slices ![32 * (g % 8), 128 * j.val] S32x128 := by
  refine ⟨rfl, fun a => ?_⟩; fin_cases a
  · show 32 * (g % 8) + 32 ≤ 256; omega
  · show 128 * j.val + 128 ≤ 512; omega

/-- Row `g % 128` and columns `128 * j …` of the weights' scales lie inside them. -/
theorem inb_sw (g : ℕ) (j : Fin 4) : ∀ a, (![g % 128, 128 * j.val] : Fin 2 → ℕ) a + S1x128.size a ≤ S128x512.size a := by
  intro a; fin_cases a
  · show g % 128 + 1 ≤ 128; omega
  · show 128 * j.val + 128 ≤ 512; omega

/-- Row `g % 128` of the activations' scales lies inside them. -/
theorem inb_sx (g : ℕ) : ∀ a, (![g % 128, 0, 0] : Fin 3 → ℕ) a + S1x32x128.size a ≤ S128x32x128.size a := by
  intro a; fin_cases a
  · show g % 128 + 1 ≤ 128; omega
  · show 0 + 32 ≤ 32; omega
  · show 0 + 128 ≤ 128; omega

/-- Tile `t % 16` of the left operand lies inside it. -/
theorem inb_lhs (t : ℕ) : ∀ a, (![t % 16, 0, 0] : Fin 3 → ℕ) a + S1x256x256.size a ≤ S16x256x256.size a := by
  intro a; fin_cases a
  · show t % 16 + 1 ≤ 16; omega
  · show 0 + 256 ≤ 256; omega
  · show 0 + 256 ≤ 256; omega

/-- Rows `256 * (t % 16) …` of the weights lie inside them. -/
theorem inb_w (t : ℕ) : ∀ a, (![256 * (t % 16), 0] : Fin 2 → ℕ) a + S256x512.size a ≤ S4096x512.size a := by
  intro a; fin_cases a
  · show 256 * (t % 16) + 256 ≤ 4096; omega
  · show 0 + 512 ≤ 512; omega

/-- The column chunk `j` of the output and of the bias. -/
theorem inb_y (j : Fin 4) : ∀ a, (![0, 128 * j.val] : Fin 2 → ℕ) a + S32x128.size a ≤ S32x512.size a := by
  intro a; fin_cases a
  · show 0 + 32 ≤ 32; omega
  · show 128 * j.val + 128 ≤ 512; omega

@[inherit_doc inb_y] theorem inb_b (j : Fin 4) : ∀ a, (![0, 128 * j.val] : Fin 2 → ℕ) a + S1x128.size a ≤ S1x512.size a := by
  intro a; fin_cases a
  · show 0 + 1 ≤ 1; omega
  · show 128 * j.val + 128 ≤ 512; omega

/-- One scale block added to a column chunk of the output: `A` is the product tile, `w` the weights' scales of the
    block, `x` the activations' scales of the block. -/
def step (A : FVec F S256x512 .f32) (w : Vec F S1x128 .f32) (x : Vec F S1x32x128 .f32) (j : Fin 4) (g : ℕ) (y : FVec F S32x128 .f32) : FVec F S32x128 .f32 :=
  addf y (mulf (mulf (extractStridedSlice S32x128 ![32 * (g % 8), 128 * j.val] A (slices_step g j))
    (broadcastTo S32x128 w broadcasts_S1x128_S32x128)) (shapeCast S32x128 x shapeCasts_S1x32x128_S32x128))

/-- The first `n` scale blocks accumulated, from zero. -/
def chain (A : ℕ → FVec F S256x512 .f32) (w : ℕ → Vec F S1x128 .f32) (x : ℕ → Vec F S1x32x128 .f32) (j : Fin 4) (n : ℕ) : FVec F S32x128 .f32 :=
  Nat.rec (broadcast S32x128 (Scalar.ofBits .f32 0x00000000#32)) (fun g y => step (A (g / 8)) (w g) (x g) j g y) n

/-- Product tile `t`: 256 rows of the left operand's tile against 256 rows of the weights. -/
def tile (arg2 : Memref sig .tc .vmem S4096x512 .fp8e4m3) (harg2 : arg2.IsWhole) (arg8 : Memref sig .tc .vmem S16x256x256 .fp8e4m3) (harg8 : arg8.IsWhole)
    (x1 : Vec F S4096x512 .fp8e4m3) (xs0 : Vec F S16x256x256 .fp8e4m3) (t : ℕ) : FVec F S256x512 .f32 :=
  matmul dot_S256x256_S256x512_S256x512_1_0_0_1_n_n none
    (shapeCast S256x256 (View.readAt (Elt F) arg8.view (Rect.unit (s := S16x256x256) ![t % 16, 0, 0] S1x256x256.size (inb_lhs t)).toLoadRect (harg8.unread xs0)) shapeCasts_S1x256x256_S256x256)
    (View.readAt (Elt F) arg2.view (Rect.unit (s := S4096x512) ![256 * (t % 16), 0] S256x512.size (inb_w t)).toLoadRect (harg2.unread x1))
    (constant S256x512 .f32 0x00000000#32)

section
variable (c : Dev nD) (i : grid0.Coords) (arg1 : Memref sig .tc .vmem S32x4096 .f32) (harg1 : arg1.IsWhole) (arg2 : Memref sig .tc .vmem S4096x512 .fp8e4m3) (harg2 : arg2.IsWhole) (arg3 : Memref sig .tc .vmem S128x512 .i8) (harg3 : arg3.IsWhole) (arg4 : Memref sig .tc .vmem S1x512 .f32) (harg4 : arg4.IsWhole) (arg5 : Memref sig .tc .vmem S32x512 .f32) (harg5 : arg5.IsWhole) (arg6 : Memref sig .tc .vmem S32x4096 .fp8e4m3) (harg6 : arg6.IsWhole) (arg7 : Memref sig .tc .vmem S32x128 .i8) (harg7 : arg7.IsWhole) (arg8 : Memref sig .tc .vmem S16x256x256 .fp8e4m3) (harg8 : arg8.IsWhole) (arg9 : Memref sig .tc .vmem S128x32x128 .f32) (harg9 : arg9.IsWhole) (arg10 : Memref sig .tc .vmem S128x512 .f32) (harg10 : arg10.IsWhole)
    (x1 : Vec F S4096x512 .fp8e4m3) (x2 : Vec F S128x512 .i8) (x3 : Vec F S1x512 .f32) (xs0 : Vec F S16x256x256 .fp8e4m3) (xs1 : Vec F S128x32x128 .f32)

/-- The weights' scales decoded: what the body stores into their scratch buffer. -/
def swPiece : List (View.Piece (Elt F) S128x512 .f32) :=
  [⟨Rect.unit (s := S128x512) ![0, 0] S128x512.size inb_S128x512_S128x512_0_0,
    k0_pay362 (View.readAt (Elt F) arg3.view (Rect.unit (s := S128x512) ![0, 0] S128x512.size inb_S128x512_S128x512_0_0).toLoadRect (harg3.unread x2))⟩]

/-- Column chunk `j` of the output as the body stores it. -/
def yPiece (j : Fin 4) : View.Piece (Elt F) S32x512 .f32 :=
  ⟨Rect.unit (s := S32x512) ![0, 128 * j.val] S32x128.size (inb_y j),
    addf (chain (tile arg2 harg2 arg8 harg8 x1 xs0)
        (fun g => arg10.view.readCov (swPiece arg3 harg3 x2) (Rect.unit (s := S128x512) ![g % 128, 128 * j.val] S1x128.size (inb_sw g j)).toLoadRect)
        (fun g => View.readAt (Elt F) arg9.view (Rect.unit (s := S128x32x128) ![g % 128, 0, 0] S1x32x128.size (inb_sx g)).toLoadRect (harg9.unread xs1)) j 128)
      (broadcastTo S32x128 (shapeCast S1x128 (View.readAt (Elt F) arg4.view (Rect.unit (s := S1x512) ![0, 128 * j.val] S1x128.size (inb_b j)).toLoadRect (harg4.unread x3)) shapeCasts_S1x128_S1x128) broadcasts_S1x128_S32x128)⟩

/-- The writes the body leaves in the output's buffer are the four chunks. -/
theorem restRun_writes :
    (restRun c i arg1 harg1 arg2 harg2 arg3 harg3 arg4 harg4 arg5 harg5 arg6 harg6 arg7 harg7 arg8 harg8 arg9 harg9 arg10 harg10 x1 x2 x3 xs0 xs1).1
      = [yPiece arg2 harg2 arg3 harg3 arg4 harg4 arg8 harg8 arg9 harg9 arg10 x1 x2 x3 xs0 xs1 3, yPiece arg2 harg2 arg3 harg3 arg4 harg4 arg8 harg8 arg9 harg9 arg10 x1 x2 x3 xs0 xs1 2,
        yPiece arg2 harg2 arg3 harg3 arg4 harg4 arg8 harg8 arg9 harg9 arg10 x1 x2 x3 xs0 xs1 1, yPiece arg2 harg2 arg3 harg3 arg4 harg4 arg8 harg8 arg9 harg9 arg10 x1 x2 x3 xs0 xs1 0] := by
  sl_kernel_rfl

end

end Cert.Kernel.Body

end
-- ==== Proof.BodyK.QuantLists.lean ====
/- What the quantising branch writes, block by block: the lists the run found are one whole write of the codes, one of
   the scales, and 128 writes of one form into each of the two scratch buffers. -/
module

public import proofs.«01_k».proof.Proof.BodyK.QuantRun
public import proofs.«01_k».proof.Proof.BodyK.Chain

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The bits of `2 ^ (k - 127)` in single precision. -/
def p2 (k : ℕ) : BitVec 32 := BitVec.ofNat 32 (k * 8388608)

section
variable {s : Shape}

/-- One rung up: where the value is at least `2 ^ (n - 1)` it is divided by `2 ^ n` and `n` is added to the exponent. -/
def upV (n : ℕ) (p : FVec F s .f32 × IVec s 32) : FVec F s .f32 × IVec s 32 :=
  (select (cmpf .oge p.1 (broadcast s (Scalar.ofBits .f32 (p2 (126 + n))))) (mulf p.1 (broadcast s (Scalar.ofBits .f32 (p2 (127 - n))))) p.1,
   select (cmpf .oge p.1 (broadcast s (Scalar.ofBits .f32 (p2 (126 + n))))) (addi p.2 (broadcast s (BitVec.ofNat 32 n))) p.2)

/-- One rung down: where the value is below `2 ^ (-n)` it is multiplied by `2 ^ n` and `n` is taken from the exponent. -/
def downV (n : ℕ) (p : FVec F s .f32 × IVec s 32) : FVec F s .f32 × IVec s 32 :=
  (select (cmpf .olt p.1 (broadcast s (Scalar.ofBits .f32 (p2 (127 - n))))) (mulf p.1 (broadcast s (Scalar.ofBits .f32 (p2 (127 + n))))) p.1,
   select (cmpf .olt p.1 (broadcast s (Scalar.ofBits .f32 (p2 (127 - n))))) (subi p.2 (broadcast s (BitVec.ofNat 32 n))) p.2)

/-- The ladder of comparisons: eight rungs up, eight rungs down. -/
def ladderV (v : FVec F s .f32) : FVec F s .f32 × IVec s 32 :=
  downV 1 (downV 1 (downV 2 (downV 5 (downV 9 (downV 19 (downV 37 (downV 74
    (upV 1 (upV 1 (upV 2 (upV 4 (upV 8 (upV 16 (upV 32 (upV 64 (v, broadcast s 0#32))))))))))))))))

/-- `2 ^ n` from its bits: a subnormal's below `-126`, infinity's from `128` on. -/
def pow2V {s : Shape} (n : IVec s 32) : FVec F s .f32 :=
  bitcastToFloat .f32 (select (cmpi .slt n (broadcast s 4294967170#32))
    (shli (broadcast s 1#32) (maxsi (addi n (broadcast s 149#32)) (broadcast s 0#32)))
    (shli (addi (minsi n (broadcast s 128#32)) (broadcast s 127#32)) (broadcast s 23#32)))

/-- The exponent of a block whose largest magnitude is `a`: `0` where the scaled magnitude is zero or infinite, else the ladder's. -/
def expoV (a : FVec F s .f32) : IVec s 32 :=
  select (cmpf .oeq a (broadcast s (Scalar.ofBits .f32 0x00000000#32))) (broadcast s 0#32)
    (select (ori (cmpf .oeq (mulf a (broadcast s (Scalar.ofBits .f32 0x3B124925#32))) (broadcast s (Scalar.ofBits .f32 0x00000000#32)))
        (cmpf .oeq (mulf a (broadcast s (Scalar.ofBits .f32 0x3B124925#32))) (broadcast s (Scalar.ofBits .f32 0x7F800000#32))))
      (broadcast s 0#32) (ladderV (mulf a (broadcast s (Scalar.ofBits .f32 0x3B124925#32)))).2)

end

/-- The exponents of the 128 x 32 blocks of the activations. -/
def expos (x : Vec F S32x4096 .f32) : IVec S128x32 32 := expoV (k0_pay2 x)

/-- The activations scaled by their block's power of two and clipped to the codes' range. -/
def clipped (x : Vec F S32x4096 .f32) : FVec F S32x4096 .f32 :=
  transpose S32x4096 [1, 0] (shapeCast S4096x32
    (minimumf (broadcast S128x32x32 (Scalar.ofBits .f32 0x43E00000#32)) (maximumf (broadcast S128x32x32 (Scalar.ofBits .f32 0xC3E00000#32))
      (mulf (k0_pay1 x) (broadcastTo S128x32x32 (shapeCast S128x1x32 (pow2V (subi (broadcast S128x32 0#32) (expos x))) shapeCasts_S128x32_S128x1x32) broadcasts_S128x1x32_S128x32x32))))
    shapeCasts_S128x32x32_S4096x32) transposes_S4096x32_p1_0_S32x4096

/-- The biased exponents, a row's blocks along the columns. -/
def biased (x : Vec F S32x4096 .f32) : IVec S32x128 32 :=
  transpose S32x128 [1, 0] (addi (expos x) (broadcast S128x32 127#32)) transposes_S128x32_p1_0_S32x128

/-- The activations' scales decoded from the low byte of the biased exponents. -/
def sxAll (x : Vec F S32x4096 .f32) : FVec F S32x128 .f32 :=
  pow2V (subi (andi (biased x) (broadcast S32x128 255#32)) (broadcast S32x128 127#32))

/-- Column `g % 128` of the scales lies inside them. -/
theorem slices_sx (g : ℕ) : S32x128.Slices ![0, g % 128] S32x1 := by
  refine ⟨rfl, fun a => ?_⟩; fin_cases a
  · show 0 + 32 ≤ 32; omega
  · show g % 128 + 1 ≤ 128; omega

/-- The 256 columns of tile `g / 8` of the clipped activations lie inside them. -/
theorem slices_lhs (g : ℕ) : S32x4096.Slices ![0, 256 * (g / 8 % 16)] S32x256 := by
  refine ⟨rfl, fun a => ?_⟩; fin_cases a
  · show 0 + 32 ≤ 32; omega
  · show 256 * (g / 8 % 16) + 256 ≤ 4096; omega

/-- Where block `g`'s masked copy of its tile lies in the left operand. -/
theorem inb_lhsPiece (g : ℕ) : ∀ a, (![g / 8 % 16, 32 * (g % 8), 0] : Fin 3 → ℕ) a + S1x32x256.size a ≤ S16x256x256.size a := by
  intro a; fin_cases a
  · show g / 8 % 16 + 1 ≤ 16; omega
  · show 32 * (g % 8) + 32 ≤ 256; omega
  · show 0 + 256 ≤ 256; omega

/-- What is stored for block `g` of the activations' scales: column `g` repeated along 128 lanes. -/
def sxPiece (x : Vec F S32x4096 .f32) (g : ℕ) : View.Piece (Elt F) S128x32x128 .f32 :=
  ⟨Rect.unit (s := S128x32x128) ![g % 128, 0, 0] S1x32x128.size (inb_sx g),
    shapeCast S1x32x128 (broadcastTo S32x128 (shapeCast S32x1 (extractStridedSlice S32x1 ![0, g % 128] (sxAll x) (slices_sx g)) shapeCasts_S32x1_S32x1)
      broadcasts_S32x1_S32x128) shapeCasts_S32x128_S1x32x128⟩

/-- What is stored for block `g` of the left operand: its tile of the clipped activations with the other blocks' lanes zero. -/
def lhsPiece (x : Vec F S32x4096 .f32) (g : ℕ) : View.Piece (Elt F) S16x256x256 .fp8e4m3 :=
  ⟨Rect.unit (s := S16x256x256) ![g / 8 % 16, 32 * (g % 8), 0] S1x32x256.size (inb_lhsPiece g),
    shapeCast S1x32x256 (truncf .fp8e4m3 (select (cmpi .eq k0_pay194 (broadcast S32x256 (BitVec.ofNat 32 (g % 8))))
      (extractStridedSlice S32x256 ![0, 256 * (g / 8 % 16)] (clipped x) (slices_lhs g)) (broadcast S32x256 (Scalar.ofBits .f32 0x00000000#32))) bitsLt_fp8e4m3_f32)
      shapeCasts_S32x256_S1x32x256⟩

/-- The blocks' numbers from the last to the first, as the run lists them. -/
def blocksDown : ℕ → List ℕ
  | 0 => []
  | n + 1 => n :: blocksDown n

section
variable (c : Dev nD) (i : grid0.Coords) (arg1 : Memref sig .tc .vmem S32x4096 .f32) (harg1 : arg1.IsWhole) (arg2 : Memref sig .tc .vmem S4096x512 .fp8e4m3) (harg2 : arg2.IsWhole) (arg3 : Memref sig .tc .vmem S128x512 .i8) (harg3 : arg3.IsWhole) (arg4 : Memref sig .tc .vmem S1x512 .f32) (harg4 : arg4.IsWhole) (arg5 : Memref sig .tc .vmem S32x512 .f32) (harg5 : arg5.IsWhole) (arg6 : Memref sig .tc .vmem S32x4096 .fp8e4m3) (harg6 : arg6.IsWhole) (arg7 : Memref sig .tc .vmem S32x128 .i8) (harg7 : arg7.IsWhole) (arg8 : Memref sig .tc .vmem S16x256x256 .fp8e4m3) (harg8 : arg8.IsWhole) (arg9 : Memref sig .tc .vmem S128x32x128 .f32) (harg9 : arg9.IsWhole) (arg10 : Memref sig .tc .vmem S128x512 .f32) (harg10 : arg10.IsWhole) (hc0 : cond0_0 i) (x0 : Vec F S32x4096 .f32)

/-- The activations as the body loads them. -/
def xRead : Vec F S32x4096 .f32 :=
  View.readAt (Elt F) arg1.view (Rect.unit (s := S32x4096) ![0, 0] S32x4096.size inb_S32x4096_S32x4096_0_0).toLoadRect (harg1.unread x0)

/-- The codes are written once, whole. -/
theorem quantRun_codes :
    (quantRun c i arg1 harg1 arg2 harg2 arg3 harg3 arg4 harg4 arg5 harg5 arg6 harg6 arg7 harg7 arg8 harg8 arg9 harg9 arg10 harg10 hc0 x0).1
      = [⟨Rect.unit (s := S32x4096) ![0, 0] S32x4096.size inb_S32x4096_S32x4096_0_0, truncf .fp8e4m3 (clipped (xRead arg1 harg1 x0)) bitsLt_fp8e4m3_f32⟩] := by
  sl_kernel_rfl

/-- The scales are written once, whole. -/
theorem quantRun_scales :
    (quantRun c i arg1 harg1 arg2 harg2 arg3 harg3 arg4 harg4 arg5 harg5 arg6 harg6 arg7 harg7 arg8 harg8 arg9 harg9 arg10 harg10 hc0 x0).2.1
      = [⟨Rect.unit (s := S32x128) ![0, 0] S32x128.size inb_S32x128_S32x128_0_0, trunci 8 (biased (xRead arg1 harg1 x0)) natLt_8_32⟩] := by
  sl_kernel_rfl

/-- The left operand is written block by block. -/
theorem quantRun_lhs :
    (quantRun c i arg1 harg1 arg2 harg2 arg3 harg3 arg4 harg4 arg5 harg5 arg6 harg6 arg7 harg7 arg8 harg8 arg9 harg9 arg10 harg10 hc0 x0).2.2.1 = (blocksDown 128).map (lhsPiece (xRead arg1 harg1 x0)) := by
  sl_kernel_rfl

/-- The decoded scales are written block by block. -/
theorem quantRun_sx :
    (quantRun c i arg1 harg1 arg2 harg2 arg3 harg3 arg4 harg4 arg5 harg5 arg6 harg6 arg7 harg7 arg8 harg8 arg9 harg9 arg10 harg10 hc0 x0).2.2.2.1 = (blocksDown 128).map (sxPiece (xRead arg1 harg1 x0)) := by
  sl_kernel_rfl

end

end Cert.Kernel.Body

end
-- ==== Proof.BodyK.Spec.lean ====
/- What the body's two halves leave, as functions of the blocks alone: the buffers' contents are read off the lists of
   writes, no buffer named. -/
module

public import proofs.«01_k».proof.Proof.BodyK.QuantLists
public import Idealize.ShloMosaic.Lib.Pipeline.ValueKit.Basic
public import Idealize.ShloMosaic.Lib.Pipeline.ValueKit.Tiles

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The codes of the activations `x`. -/
def codesOf (x : Vec F S32x4096 .f32) : Vec F S32x4096 .fp8e4m3 := truncf .fp8e4m3 (clipped x) bitsLt_fp8e4m3_f32

/-- The scales of the activations `x`. -/
def scalesOf (x : Vec F S32x4096 .f32) : Vec F S32x128 .i8 := trunci 8 (biased x) natLt_8_32

/-- The left operand of the products: every block's masked tile. -/
def lhsOf (x : Vec F S32x4096 .f32) : Vec F S16x256x256 .fp8e4m3 := View.canon ((blocksDown 128).map (lhsPiece x))

/-- The activations' scales, each repeated along 128 lanes. -/
def sxOf (x : Vec F S32x4096 .f32) : Vec F S128x32x128 .f32 := View.canon ((blocksDown 128).map (sxPiece x))

/-- The weights' scales decoded. -/
def swOf (s : Vec F S128x512 .i8) : FVec F S128x512 .f32 := k0_pay362 s

/-- Product tile `t` of the left operand and the weights. -/
def tileOf (w : Vec F S4096x512 .fp8e4m3) (l : Vec F S16x256x256 .fp8e4m3) (t : ℕ) : FVec F S256x512 .f32 :=
  matmul dot_S256x256_S256x512_S256x512_1_0_0_1_n_n none
    (shapeCast S256x256 (View.ld l (Rect.unit (s := S16x256x256) ![t % 16, 0, 0] S1x256x256.size (inb_lhs t))) shapeCasts_S1x256x256_S256x256)
    (View.ld w (Rect.unit (s := S4096x512) ![256 * (t % 16), 0] S256x512.size (inb_w t)))
    (constant S256x512 .f32 0x00000000#32)

/-- Column chunk `j` of the output block. -/
def chunkOf (w : Vec F S4096x512 .fp8e4m3) (s : Vec F S128x512 .i8) (b : Vec F S1x512 .f32) (l : Vec F S16x256x256 .fp8e4m3) (sx : Vec F S128x32x128 .f32)
    (j : Fin 4) : FVec F S32x128 .f32 :=
  addf (chain (tileOf w l) (fun g => View.ld (swOf s) (Rect.unit (s := S128x512) ![g % 128, 128 * j.val] S1x128.size (inb_sw g j)))
      (fun g => View.ld sx (Rect.unit (s := S128x32x128) ![g % 128, 0, 0] S1x32x128.size (inb_sx g))) j 128)
    (broadcastTo S32x128 (shapeCast S1x128 (View.ld b (Rect.unit (s := S1x512) ![0, 128 * j.val] S1x128.size (inb_b j))) shapeCasts_S1x128_S1x128) broadcasts_S1x128_S32x128)

/-- The same chunk with its place. -/
def chunkPiece (w : Vec F S4096x512 .fp8e4m3) (s : Vec F S128x512 .i8) (b : Vec F S1x512 .f32) (l : Vec F S16x256x256 .fp8e4m3) (sx : Vec F S128x32x128 .f32)
    (j : Fin 4) : View.Piece (Elt F) S32x512 .f32 :=
  ⟨Rect.unit (s := S32x512) ![0, 128 * j.val] S32x128.size (inb_y j), chunkOf w s b l sx j⟩

/-- The output block: its four chunks. -/
def yOf (w : Vec F S4096x512 .fp8e4m3) (s : Vec F S128x512 .i8) (b : Vec F S1x512 .f32) (l : Vec F S16x256x256 .fp8e4m3) (sx : Vec F S128x32x128 .f32) : Vec F S32x512 .f32 :=
  View.canon [chunkPiece w s b l sx 3, chunkPiece w s b l sx 2, chunkPiece w s b l sx 1, chunkPiece w s b l sx 0]

/-- A load from a whole buffer at known contents reads the contents at the rectangle. -/
theorem readAt_unread {S : Shape} {e : EltTy} (a : Memref sig .tc .vmem S e) (ha : a.IsWhole) (r : Rect S) (x : Vec F S e) :
    View.readAt (Elt F) a.view r.toLoadRect (ha.unread x) = View.ld (Val := Elt F) x r := by
  rw [View.readAt_eq_ld, ha.read_unread]

section
variable (c : Dev nD) (i : grid0.Coords) (arg1 : Memref sig .tc .vmem S32x4096 .f32) (harg1 : arg1.IsWhole) (arg2 : Memref sig .tc .vmem S4096x512 .fp8e4m3) (harg2 : arg2.IsWhole) (arg3 : Memref sig .tc .vmem S128x512 .i8) (harg3 : arg3.IsWhole) (arg4 : Memref sig .tc .vmem S1x512 .f32) (harg4 : arg4.IsWhole) (arg5 : Memref sig .tc .vmem S32x512 .f32) (harg5 : arg5.IsWhole) (arg6 : Memref sig .tc .vmem S32x4096 .fp8e4m3) (harg6 : arg6.IsWhole) (arg7 : Memref sig .tc .vmem S32x128 .i8) (harg7 : arg7.IsWhole) (arg8 : Memref sig .tc .vmem S16x256x256 .fp8e4m3) (harg8 : arg8.IsWhole) (arg9 : Memref sig .tc .vmem S128x32x128 .f32) (harg9 : arg9.IsWhole) (arg10 : Memref sig .tc .vmem S128x512 .f32) (harg10 : arg10.IsWhole)

/-- The activations as loaded are the block. -/
theorem xRead_eq (x0 : Vec F S32x4096 .f32) : xRead arg1 harg1 x0 = x0 := by
  unfold xRead; rw [readAt_unread]; exact View.ld_unit_lit _ _ (by decide)

/-- A chunk as the body stores it is the chunk as a function of the blocks. -/
theorem yPiece_eq (x1 : Vec F S4096x512 .fp8e4m3) (x2 : Vec F S128x512 .i8) (x3 : Vec F S1x512 .f32) (xs0 : Vec F S16x256x256 .fp8e4m3) (xs1 : Vec F S128x32x128 .f32) (j : Fin 4) :
    yPiece arg2 harg2 arg3 harg3 arg4 harg4 arg8 harg8 arg9 harg9 arg10 x1 x2 x3 xs0 xs1 j = chunkPiece x1 x2 x3 xs0 xs1 j := by
  have hsw : ∀ r : Rect S128x512, arg10.view.readCov (swPiece arg3 harg3 x2) r.toLoadRect = View.ld (swOf x2) r := fun r => by
    rw [View.readCov_eq_canon_ld _ _ _ (View.cover_of_tiledL _ S128x512.size (by sl_kernel_rfl))]
    congr 1
    unfold swPiece swOf
    rw [readAt_unread, View.ld_unit_lit _ _ (by decide)]
    exact View.canon_cons_unit_lit _ _ _ (by decide)
  unfold yPiece chunkPiece chunkOf
  have ht : tile arg2 harg2 arg8 harg8 x1 xs0 = tileOf x1 xs0 := by
    funext t; unfold tile tileOf; rw [readAt_unread, readAt_unread]
  simp only [hsw, readAt_unread, ht]

/-- The branch taken, its buffers' contents named. -/
theorem quant_spec (hc0 : cond0_0 i) (x0 : Vec F S32x4096 .f32) (E : Set ℕ) (K : PUnit → sProp 𝕄) :
    iprop(owns (c : Thread nD τ) arg1 fullShare x0 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
      ∗ (iprop(owns (c : Thread nD τ) arg1 fullShare x0 ∗ owns (c : Thread nD τ) arg6 fullShare (codesOf x0) ∗ owns (c : Thread nD τ) arg7 fullShare (scalesOf x0) ∗ owns (c : Thread nD τ) arg8 fullShare (lhsOf x0) ∗ owns (c : Thread nD τ) arg9 fullShare (sxOf x0)) -∗ K ⟨⟩))
    ⊢ wp frame (wpE (defs₀ (F := F)) Variants.none c none) E (quantIf i arg1 harg1 arg2 harg2 arg3 harg3 arg4 harg4 arg5 harg5 arg6 harg6 arg7 harg7 arg8 harg8 arg9 harg9 arg10 harg10) K := by
  have h5 : ∀ f, arg6.view.read (Elt F) (arg6.view.writes (Elt F) f (quantRun c i arg1 harg1 arg2 harg2 arg3 harg3 arg4 harg4 arg5 harg5 arg6 harg6 arg7 harg7 arg8 harg8 arg9 harg9 arg10 harg10 hc0 x0).1) = codesOf x0 := fun f => by
    rw [quantRun_codes, xRead_eq, View.read_writes_eq_canon _ _ _ (View.cover_of_tiledL _ S32x4096.size (by sl_kernel_rfl))]
    exact View.canon_cons_unit_lit _ _ _ (by decide)
  have h6 : ∀ f, arg7.view.read (Elt F) (arg7.view.writes (Elt F) f (quantRun c i arg1 harg1 arg2 harg2 arg3 harg3 arg4 harg4 arg5 harg5 arg6 harg6 arg7 harg7 arg8 harg8 arg9 harg9 arg10 harg10 hc0 x0).2.1) = scalesOf x0 := fun f => by
    rw [quantRun_scales, xRead_eq, View.read_writes_eq_canon _ _ _ (View.cover_of_tiledL _ S32x128.size (by sl_kernel_rfl))]
    exact View.canon_cons_unit_lit _ _ _ (by decide)
  have h8 : ∀ f, arg8.view.read (Elt F) (arg8.view.writes (Elt F) f (quantRun c i arg1 harg1 arg2 harg2 arg3 harg3 arg4 harg4 arg5 harg5 arg6 harg6 arg7 harg7 arg8 harg8 arg9 harg9 arg10 harg10 hc0 x0).2.2.1) = lhsOf x0 := fun f => by
    rw [quantRun_lhs, xRead_eq]
    exact View.read_writes_eq_canon _ _ _ (View.cover_of_tiledL _ S1x32x256.size (by sl_kernel_rfl))
  have h9 : ∀ f, arg9.view.read (Elt F) (arg9.view.writes (Elt F) f (quantRun c i arg1 harg1 arg2 harg2 arg3 harg3 arg4 harg4 arg5 harg5 arg6 harg6 arg7 harg7 arg8 harg8 arg9 harg9 arg10 harg10 hc0 x0).2.2.2.1) = sxOf x0 := fun f => by
    rw [quantRun_sx, xRead_eq]
    exact View.read_writes_eq_canon _ _ _ (View.cover_of_tiledL _ S1x32x128.size (by sl_kernel_rfl))
  iintro ⟨H1, H6, H7, H8, H9, Hk⟩
  iapply ((quantRun c i arg1 harg1 arg2 harg2 arg3 harg3 arg4 harg4 arg5 harg5 arg6 harg6 arg7 harg7 arg8 harg8 arg9 harg9 arg10 harg10 hc0 x0).2.2.2.2 E K)
  isplitl [H1]; · iexact H1
  isplitl [H6]; · iexact H6
  isplitl [H7]; · iexact H7
  isplitl [H8]; · iexact H8
  isplitl [H9]; · iexact H9
  iintro ⟨H1, ⟨%f6, H6⟩, ⟨%f7, H7⟩, ⟨%f8, H8⟩, ⟨%f9, H9⟩⟩
  iapply Hk
  isplitl [H1]; · iexact H1
  isplitl [H6]
  · unfold owns; iexists _; isplitr
    swap; · iexact H6
    ipureintro; exact h5 f6
  isplitl [H7]
  · unfold owns; iexists _; isplitr
    swap; · iexact H7
    ipureintro; exact h6 f7
  isplitl [H8]
  · unfold owns; iexists _; isplitr
    swap; · iexact H8
    ipureintro; exact h8 f8
  unfold owns; iexists _; isplitr
  swap; · iexact H9
  ipureintro; exact h9 f9

/-- The branch not taken does nothing. -/
theorem skip_spec (hc0 : ¬cond0_0 i) (E : Set ℕ) (K : PUnit → sProp 𝕄) :
    K ⟨⟩ ⊢ wp frame (wpE (defs₀ (F := F)) Variants.none c none) E (quantIf i arg1 harg1 arg2 harg2 arg3 harg3 arg4 harg4 arg5 harg5 arg6 harg6 arg7 harg7 arg8 harg8 arg9 harg9 arg10 harg10) K := by
  have h : quantIf (F := F) i arg1 harg1 arg2 harg2 arg3 harg3 arg4 harg4 arg5 harg5 arg6 harg6 arg7 harg7 arg8 harg8 arg9 harg9 arg10 harg10 = pure ⟨⟩ := by
    unfold quantIf; exact dif_neg hc0
  rw [h]
  rw [wp_pure]
  exact fupd_intro

/-- The rest of the body, the output's contents named. -/
theorem rest_spec (x1 : Vec F S4096x512 .fp8e4m3) (x2 : Vec F S128x512 .i8) (x3 : Vec F S1x512 .f32) (xs0 : Vec F S16x256x256 .fp8e4m3) (xs1 : Vec F S128x32x128 .f32)
    (E : Set ℕ) (K : PUnit → sProp 𝕄) (P S : sProp 𝕄)
    (h : ∀ Q : PUnit → sProp 𝕄, iprop(P ∗ (iprop(S ∗ owns (c : Thread nD τ) arg8 fullShare xs0 ∗ owns (c : Thread nD τ) arg9 fullShare xs1) -∗ Q ⟨⟩))
      ⊢ wp frame (wpE (defs₀ (F := F)) Variants.none c none) E (quantIf i arg1 harg1 arg2 harg2 arg3 harg3 arg4 harg4 arg5 harg5 arg6 harg6 arg7 harg7 arg8 harg8 arg9 harg9 arg10 harg10) Q) :
    iprop(P ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg10 fullShare d)
      ∗ (iprop(S ∗ owns (c : Thread nD τ) arg2 fullShare x1 ∗ owns (c : Thread nD τ) arg3 fullShare x2 ∗ owns (c : Thread nD τ) arg4 fullShare x3 ∗ owns (c : Thread nD τ) arg5 fullShare (yOf x1 x2 x3 xs0 xs1) ∗ owns (c : Thread nD τ) arg8 fullShare xs0 ∗ owns (c : Thread nD τ) arg9 fullShare xs1 ∗ (∃ d, owns (c : Thread nD τ) arg10 fullShare d)) -∗ K ⟨⟩))
    ⊢ wp frame (wpE (defs₀ (F := F)) Variants.none c none) E (cc0_mxfp8_linear i arg1 harg1 arg2 harg2 arg3 harg3 arg4 harg4 arg5 harg5 arg6 harg6 arg7 harg7 arg8 harg8 arg9 harg9 arg10 harg10) K := by
  have h5 : ∀ f, arg5.view.read (Elt F) (arg5.view.writes (Elt F) f (restRun c i arg1 harg1 arg2 harg2 arg3 harg3 arg4 harg4 arg5 harg5 arg6 harg6 arg7 harg7 arg8 harg8 arg9 harg9 arg10 harg10 x1 x2 x3 xs0 xs1).1) = yOf x1 x2 x3 xs0 xs1 := fun f => by
    rw [restRun_writes]
    simp only [yPiece_eq]
    exact View.read_writes_eq_canon _ _ _ (View.cover_of_tiledL _ S32x128.size (by sl_kernel_rfl))
  iintro ⟨HP, H2, H3, H4, H5, H10, Hk⟩
  iapply ((restRun c i arg1 harg1 arg2 harg2 arg3 harg3 arg4 harg4 arg5 harg5 arg6 harg6 arg7 harg7 arg8 harg8 arg9 harg9 arg10 harg10 x1 x2 x3 xs0 xs1).2.2 E K P S h)
  isplitl [HP]; · iexact HP
  isplitl [H2]; · iexact H2
  isplitl [H3]; · iexact H3
  isplitl [H4]; · iexact H4
  isplitl [H5]; · iexact H5
  isplitl [H10]; · iexact H10
  iintro ⟨HS, H2, H3, H4, ⟨%f5, H5⟩, H8, H9, ⟨%f10, H10⟩⟩
  iapply Hk
  isplitl [HS]; · iexact HS
  isplitl [H2]; · iexact H2
  isplitl [H3]; · iexact H3
  isplitl [H4]; · iexact H4
  isplitl [H5]
  · unfold owns; iexists _; isplitr
    swap; · iexact H5
    ipureintro; exact h5 f5
  isplitl [H8]; · iexact H8
  isplitl [H9]; · iexact H9
  iexists _; unfold owns; iexists _; isplitr
  swap; · iexact H10
  ipureintro; rfl

end

end Cert.Kernel.Body

end
-- ==== Proof.BodyK.Frame.lean ====
/- The kernel's frame: at the first point the body quantises the activations, at every point it computes one column
   block of the output. The codes, the scales and the two scratch buffers are filled once, at the first point, and keep
   what it left.
-/
module

public import proofs.«01_k».proof.Proof.BodyK.Spec
public import proofs.«01_k».proof.Proof.Gen.Kernel.Frame
public import Idealize.ShloMosaic.Lib.Pipeline.TableIdle
public import Idealize.ShloMosaic.Lib.Claim

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
abbrev t0 : Fin cfg0.N := ⟨0, lt_of_lt_of_eq (by decide) (show cfg0.N = 8 from N_0).symm⟩

/-- The activations: the input's one block. -/
def xBlk (c : Dev nD) : Vec F S32x4096 .f32 := iblk m c 0 t0

/-- The output's column block at point `t`. -/
def yBlk (c : Dev nD) (t : Fin cfg0.N) : Vec F S32x512 .f32 :=
  yOf (iblk m c 1 t) (iblk m c 2 t) (iblk m c 3 t) (lhsOf (xBlk m c)) (sxOf (xBlk m c))

/-- The scoped buffers between points: before the first at anything, afterwards the two the first point fills at what it
    left in them. -/
def PhiS (c : Dev nD) : ℕ → sProp 𝕄
  | 0 => Pipeline.ΦA spec0 c
  | _ + 1 => iprop(iprop(owns (c : Thread nD τ) scM0_0 fullShare (lhsOf (xBlk m c)) ∗ owns (c : Thread nD τ) scM0_1 fullShare (sxOf (xBlk m c)) ∗ (∃ d, owns (c : Thread nD τ) scM0_2 fullShare d)) ∗ (∃ r, prngReg c r))

/-- Before the first point. -/
theorem PhiS_zero (c : Dev nD) (n : ℕ) (hz : n = 0) : PhiS m c n = Pipeline.ΦA spec0 c := by subst hz; rfl

/-- Before any later point. -/
theorem PhiS_pos (c : Dev nD) (n : ℕ) (hz : n ≠ 0) :
    PhiS m c n = iprop(iprop(owns (c : Thread nD τ) scM0_0 fullShare (lhsOf (xBlk m c)) ∗ owns (c : Thread nD τ) scM0_1 fullShare (sxOf (xBlk m c)) ∗ (∃ d, owns (c : Thread nD τ) scM0_2 fullShare d)) ∗ (∃ r, prngReg c r)) := by
  cases n with
  | zero => exact absurd rfl hz
  | succ n => rfl

/-- The pipeline's proof data on core `c`: each input's buffer holds its block after every point, the output's its
    column block, the codes' and the scales' what the first point computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yBlk m c t
    | ⟨5, _⟩ => codesOf (xBlk m c)
    | ⟨6, _⟩ => scalesOf (xBlk m c)
  Φ t := PhiS m c t.val
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
@[inherit_doc after0_0] theorem after0_1 (c : Dev nD) (t : Fin cfg0.N) : (dats m 0 c).after 1 t = iblk m c 1 t := by dsimp only [dats]
@[inherit_doc after0_0] theorem after0_2 (c : Dev nD) (t : Fin cfg0.N) : (dats m 0 c).after 2 t = iblk m c 2 t := by dsimp only [dats]
@[inherit_doc after0_0] theorem after0_3 (c : Dev nD) (t : Fin cfg0.N) : (dats m 0 c).after 3 t = iblk m c 3 t := by dsimp only [dats]
@[inherit_doc after0_0] theorem after0_4 (c : Dev nD) (t : Fin cfg0.N) : (dats m 0 c).after 4 t = yBlk m c t := by dsimp only [dats]
@[inherit_doc after0_0] theorem after0_5 (c : Dev nD) (t : Fin cfg0.N) : (dats m 0 c).after 5 t = codesOf (xBlk m c) := by dsimp only [dats]
@[inherit_doc after0_0] theorem after0_6 (c : Dev nD) (t : Fin cfg0.N) : (dats m 0 c).after 6 t = scalesOf (xBlk m c) := by dsimp only [dats]

/-- Each input's current buffer holds its block at every point. -/
theorem before0_0 (c : Dev nD) (t : Fin cfg0.N) (d) : (dats m 0 c).before 0 t d = iblk m c 0 t :=
  before0_0_of m (dats m 0 c) (A_eq m c 0) (after0_0 m c) t d
@[inherit_doc before0_0] theorem before0_1 (c : Dev nD) (t : Fin cfg0.N) (d) : (dats m 0 c).before 1 t d = iblk m c 1 t :=
  before0_1_of m (dats m 0 c) (A_eq m c 1) (after0_1 m c) t d
@[inherit_doc before0_0] theorem before0_2 (c : Dev nD) (t : Fin cfg0.N) (d) : (dats m 0 c).before 2 t d = iblk m c 2 t :=
  before0_2_of m (dats m 0 c) (A_eq m c 2) (after0_2 m c) t d
@[inherit_doc before0_0] theorem before0_3 (c : Dev nD) (t : Fin cfg0.N) (d) : (dats m 0 c).before 3 t d = iblk m c 3 t :=
  before0_3_of m (dats m 0 c) (A_eq m c 3) (after0_3 m c) t d

/-- The body stores the codes and the scales at the first point. -/
theorem idle_0 : cfg0.idle 5 (grid0.coords t0) = false ∧ cfg0.idle 6 (grid0.coords t0) = false := by decide +kernel

/-- At a later point the codes' buffer holds what the body stored. -/
theorem fresh_5 : ∀ t : Fin cfg0.N, t.val ≠ 0 → cfg0.fresh 5 t.val = false :=
  (by decide +kernel : ∀ t : Fin grid0.N, t.val ≠ 0 → cfg0.fresh 5 t.val = false)

/-- At a later point the scales' buffer holds what the body stored. -/
theorem fresh_6 : ∀ t : Fin cfg0.N, t.val ≠ 0 → cfg0.fresh 6 t.val = false :=
  (by decide +kernel : ∀ t : Fin grid0.N, t.val ≠ 0 → cfg0.fresh 6 t.val = false)

/-- At a later point the codes' buffer still holds the codes: it is written back after the last point only. -/
theorem before0_5_B (c : Dev nD) (t : Fin cfg0.N) (h0 : t.val ≠ 0) (d) : (dats m 0 c).before 5 t d = codesOf (xBlk m c) := by
  have hN : t.val < 8 := lt_of_lt_of_eq t.isLt (show cfg0.N = 8 from N_0)
  rw [(dats m 0 c).before_out_traj 5 rfl (fun _ _ => rfl) (fun t _ _ _ => by dsimp only [dats]) t.val t rfl d,
    if_neg (Bool.eq_false_iff.mp (fresh_5 t h0))]
  dsimp only [dats]

/-- At a later point the scales' buffer still holds the scales. -/
theorem before0_6_B (c : Dev nD) (t : Fin cfg0.N) (h0 : t.val ≠ 0) (d) : (dats m 0 c).before 6 t d = scalesOf (xBlk m c) := by
  have hN : t.val < 8 := lt_of_lt_of_eq t.isLt (show cfg0.N = 8 from N_0)
  rw [(dats m 0 c).before_out_traj 6 rfl (fun _ _ => rfl) (fun t _ _ _ => by dsimp only [dats]) t.val t rfl d,
    if_neg (Bool.eq_false_iff.mp (fresh_6 t h0))]
  dsimp only [dats]

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The branch at the first point. -/
theorem first_spec (c : Dev nD) (Q : PUnit → sProp 𝕄) :
    iprop(iprop(owns (c : Thread nD τ) (ms0_0 t0) fullShare (xBlk m c) ∗ (∃ d, owns (c : Thread nD τ) (ms0_5 t0) fullShare d) ∗ (∃ d, owns (c : Thread nD τ) (ms0_6 t0) fullShare d) ∗ (∃ d, owns (c : Thread nD τ) scM0_0 fullShare d) ∗ (∃ d, owns (c : Thread nD τ) scM0_1 fullShare d))
      ∗ (iprop(iprop(owns (c : Thread nD τ) (ms0_0 t0) fullShare (xBlk m c) ∗ owns (c : Thread nD τ) (ms0_5 t0) fullShare (codesOf (xBlk m c)) ∗ owns (c : Thread nD τ) (ms0_6 t0) fullShare (scalesOf (xBlk m c)))
          ∗ owns (c : Thread nD τ) scM0_0 fullShare (lhsOf (xBlk m c)) ∗ owns (c : Thread nD τ) scM0_1 fullShare (sxOf (xBlk m c))) -∗ Q ⟨⟩))
    ⊢ wp frame (wpE (defs₀ (F := F)) Variants.none c none) Set.univ (quantIf (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) scM0_0 (Memref.isWhole_whole _) scM0_1 (Memref.isWhole_whole _) scM0_2 (Memref.isWhole_whole _)) Q := by
  iintro ⟨⟨H0, H5, H6, HS0, HS1⟩, Hk⟩
  iapply (quant_spec c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) scM0_0 (Memref.isWhole_whole _) scM0_1 (Memref.isWhole_whole _) scM0_2 (Memref.isWhole_whole _)
    ((hcond0_0 t0).mpr rfl) (xBlk m c) Set.univ Q)
  isplitl [H0]; · iexact H0
  isplitl [H5]; · iexact H5
  isplitl [H6]; · iexact H6
  isplitl [HS0]; · iexact HS0
  isplitl [HS1]; · iexact HS1
  iintro ⟨H0, H5, H6, HS0, HS1⟩
  iapply Hk
  isplitl [H0 H5 H6]
  · isplitl [H0]; · iexact H0
    isplitl [H5]; · iexact H5
    iexact H6
  isplitl [HS0]; · iexact HS0
  iexact HS1

/-- The branch at a later point. -/
theorem later_spec (c : Dev nD) (t : Fin cfg0.N) (hz : t.val ≠ 0) (Q : PUnit → sProp 𝕄) :
    iprop(iprop(owns (c : Thread nD τ) scM0_0 fullShare (lhsOf (xBlk m c)) ∗ owns (c : Thread nD τ) scM0_1 fullShare (sxOf (xBlk m c)))
      ∗ (iprop(iprop(⌜True⌝) ∗ owns (c : Thread nD τ) scM0_0 fullShare (lhsOf (xBlk m c)) ∗ owns (c : Thread nD τ) scM0_1 fullShare (sxOf (xBlk m c))) -∗ Q ⟨⟩))
    ⊢ wp frame (wpE (defs₀ (F := F)) Variants.none c none) Set.univ (quantIf (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _)) Q := by
  have hN : t.val < 8 := lt_of_lt_of_eq t.isLt (show cfg0.N = 8 from N_0)
  iintro ⟨⟨HS0, HS1⟩, Hk⟩
  iapply (skip_spec c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _)
    (fun h => absurd ((hcond0_0 t).mp h) (by omega)) Set.univ Q)
  iapply Hk
  isplitr; · ipureintro; trivial
  isplitl [HS0]; · iexact HS0
  iexact HS1

set_option maxHeartbeats 1600000 in
/-- The body at any point: at the first the branch is taken and fills the codes, the scales and the scratch; at a later
    one it is not and they are as the first point left them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) from rfl, PhiS_pos m c _ (Nat.succ_ne_zero _),
    show (dats m 0 c).Φ t.castSucc = PhiS m c t.val from rfl]
  have hN : t.val < 8 := lt_of_lt_of_eq t.isLt (show cfg0.N = 8 from N_0)
  by_cases hz : t.val = 0
  · obtain rfl : t = t0 := Fin.ext hz
    rw [PhiS_zero m c _ rfl, PhiA0_eq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply (rest_spec c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) scM0_0 (Memref.isWhole_whole _) scM0_1 (Memref.isWhole_whole _) scM0_2 (Memref.isWhole_whole _)
      (iblk m c 1 t0) (iblk m c 2 t0) (iblk m c 3 t0) (lhsOf (xBlk m c)) (sxOf (xBlk m c)) Set.univ _
      iprop(owns (c : Thread nD τ) (ms0_0 t0) fullShare (xBlk m c) ∗ (∃ d, owns (c : Thread nD τ) (ms0_5 t0) fullShare d) ∗ (∃ d, owns (c : Thread nD τ) (ms0_6 t0) fullShare d) ∗ (∃ d, owns (c : Thread nD τ) scM0_0 fullShare d) ∗ (∃ d, owns (c : Thread nD τ) scM0_1 fullShare d))
      iprop(owns (c : Thread nD τ) (ms0_0 t0) fullShare (xBlk m c) ∗ owns (c : Thread nD τ) (ms0_5 t0) fullShare (codesOf (xBlk m c)) ∗ owns (c : Thread nD τ) (ms0_6 t0) fullShare (scalesOf (xBlk m c)))
      (first_spec m c))
    isplitl [H0 H5 H6 HS0 HS1]
    · isplitl [H0]; · iexact H0
      isplitl [H5]; · iexists _; iexact H5
      isplitl [H6]; · iexists _; iexact H6
      isplitl [HS0]; · iexact HS0
      iexact HS1
    isplitl [H1]; · iexact H1
    isplitl [H2]; · iexact H2
    isplitl [H3]; · iexact H3
    isplitl [H4]; · iexists _; iexact H4
    isplitl [HS2]; · iexact HS2
    iintro ⟨⟨H0, H5, H6⟩, H1, H2, H3, H4, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS_pos m c _ hz]
    simp only [before0_5_B m c t hz, before0_6_B m c t hz]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply (rest_spec c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _)
      (iblk m c 1 t) (iblk m c 2 t) (iblk m c 3 t) (lhsOf (xBlk m c)) (sxOf (xBlk m c)) Set.univ _
      iprop(owns (c : Thread nD τ) scM0_0 fullShare (lhsOf (xBlk m c)) ∗ owns (c : Thread nD τ) scM0_1 fullShare (sxOf (xBlk m c)))
      iprop(⌜True⌝)
      (later_spec m c t hz))
    isplitl [HS0 HS1]
    · isplitl [HS0]; · iexact HS0
      iexact HS1
    isplitl [H1]; · iexact H1
    isplitl [H2]; · iexact H2
    isplitl [H3]; · iexact H3
    isplitl [H4]; · iexists _; iexact H4
    isplitl [HS2]; · iexact HS2
    iintro ⟨-, H1, H2, H3, H4, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The codes in their buffer are what the pipeline expects back: what the body stored, or what it found. -/
theorem leaves_5 (c : Dev nD) (t : Fin cfg0.N) :
    owns (c : Thread nD τ) (ms0_5 t) fullShare ((dats m 0 c).after 5 t)
      ⊢ (match cfg0.idle 5 (cfg0.grid.coords t) with
        | true =>
          match (cfg0.win 5).flush t with
          | false => iprop(∃ d, owns (c : Thread nD τ) ((cfg0.win 5).stage (cfg0.slots t 5)) fullShare ((dats m 0 c).before 5 t d))
          | true => owns (c : Thread nD τ) ((cfg0.win 5).stage (cfg0.slots t 5)) fullShare ((dats m 0 c).after 5 t)
        | false => owns (c : Thread nD τ) ((cfg0.win 5).stage (cfg0.slots t 5)) fullShare ((dats m 0 c).after 5 t) : sProp 𝕄) := by
  by_cases hz : t.val = 0
  · obtain rfl : t = t0 := Fin.ext hz
    rw [show cfg0.idle 5 (cfg0.grid.coords t0) = false from idle_0.1]
  · simp only [before0_5_B m c t hz, after0_5]
    split
    · split
      · iintro H; iexists (fun _ => Classical.arbitrary _); iexact H
      · exact .rfl
    · exact .rfl

/-- The scales in their buffer are what the pipeline expects back: what the body stored, or what it found. -/
theorem leaves_6 (c : Dev nD) (t : Fin cfg0.N) :
    owns (c : Thread nD τ) (ms0_6 t) fullShare ((dats m 0 c).after 6 t)
      ⊢ (match cfg0.idle 6 (cfg0.grid.coords t) with
        | true =>
          match (cfg0.win 6).flush t with
          | false => iprop(∃ d, owns (c : Thread nD τ) ((cfg0.win 6).stage (cfg0.slots t 6)) fullShare ((dats m 0 c).before 6 t d))
          | true => owns (c : Thread nD τ) ((cfg0.win 6).stage (cfg0.slots t 6)) fullShare ((dats m 0 c).after 6 t)
        | false => owns (c : Thread nD τ) ((cfg0.win 6).stage (cfg0.slots t 6)) fullShare ((dats m 0 c).after 6 t) : sProp 𝕄) := by
  by_cases hz : t.val = 0
  · obtain rfl : t = t0 := Fin.ext hz
    rw [show cfg0.idle 6 (cfg0.grid.coords t0) = false from idle_0.2]
  · simp only [before0_6_B m c t hz, after0_6]
    split
    · split
      · iintro H; iexists (fun _ => Classical.arbitrary _); iexact H
      · exact .rfl
    · exact .rfl

/-- The library's body obligation, at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HΦ, Ho, H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iapply (leaves_5 m c t); iexact H5
  iapply (leaves_6 m c t); iexact H6

/-- What the launch hands the region (`ΦA`) is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val from rfl, PhiS_pos m c _ ht, PhiA0_eq]
  iintro ⟨⟨HS0, HS1, HS2⟩, Hg⟩
  isplitl [HS0 HS1 HS2]
  · isplitl [HS0]
    · iexists _; iexact HS0
    isplitl [HS1]
    · iexists _; iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: every weakly fair run terminates with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Body

end
-- ==== Proof.Body.Base.lean ====
/- What the runs of the kernel's body are stated over: the condition of its one branch, the buffers each grid point
   stages, the scratch buffers, and the invariant that owns them. -/
module

public import proofs.«01_k».proof.Proof.Gen.KernelIdeal.Frame
public import proofs.«01_k».proof.Proof.Gen.KernelIdeal.Skeleton
public import Idealize.ShloMosaic.Lib.Ring
public import Idealize.ShloMosaic.Lib.Tactic
public import Idealize.ShloMosaic.Lib.WordCmp

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-! ## The kernel body on any staging memrefs: a subtype the run finds -/

/-- One staging buffer of output window 4, through which its contents are stated (`View.read_writes_of_cover`: the
    choice does not matter). -/
abbrev VO0_4 : View sig .tc .vmem S32x512 .f32 := (Memref.whole cc0_stg4_0 : Memref sig .tc .vmem S32x512 .f32).view
/-- One staging buffer of output window 5, through which its contents are stated (`View.read_writes_of_cover`: the
    choice does not matter). -/
abbrev VO0_5 : View sig .tc .vmem S32x4096 .fp8e4m3 := (Memref.whole cc0_stg5_0 : Memref sig .tc .vmem S32x4096 .fp8e4m3).view
/-- One staging buffer of output window 6, through which its contents are stated (`View.read_writes_of_cover`: the
    choice does not matter). -/
abbrev VO0_6 : View sig .tc .vmem S32x128 .i8 := (Memref.whole cc0_stg6_0 : Memref sig .tc .vmem S32x128 .i8).view
/-- Each window's current staging memref at point `t`, spelled as the pipeline passes it (`bodyAt0`), and its wholeness. -/
abbrev ms0_0 (t : Fin cfg0.N) : Memref sig .tc .vmem S32x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x4096 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x128 .i8 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S16x256x256 .fp8e4m3 := Memref.whole cc0_scratch0
abbrev scM0_1 : Memref sig .tc .vmem S128x32x128 .f32 := Memref.whole cc0_scratch1
abbrev scM0_2 : Memref sig .tc .vmem S128x512 .f32 := Memref.whole cc0_scratch2
/-- The scratch `arg8` the kernel carries between points, as a view: what it holds is stated through it. -/
abbrev VS0_0 : View sig .tc .vmem S16x256x256 .fp8e4m3 := scM0_0.view
/-- The scratch `arg9` the kernel carries between points, as a view: what it holds is stated through it. -/
abbrev VS0_1 : View sig .tc .vmem S128x32x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The kernel body's branch: at the first point it quantises the activations, elsewhere it does nothing. -/
def quantIf (i : grid0.Coords) (arg1 : Memref sig .tc .vmem S32x4096 .f32) (harg1 : arg1.IsWhole) (arg2 : Memref sig .tc .vmem S4096x512 .fp8e4m3) (harg2 : arg2.IsWhole) (arg3 : Memref sig .tc .vmem S128x512 .i8) (harg3 : arg3.IsWhole) (arg4 : Memref sig .tc .vmem S1x512 .f32) (harg4 : arg4.IsWhole) (arg5 : Memref sig .tc .vmem S32x512 .f32) (harg5 : arg5.IsWhole) (arg6 : Memref sig .tc .vmem S32x4096 .fp8e4m3) (harg6 : arg6.IsWhole) (arg7 : Memref sig .tc .vmem S32x128 .i8) (harg7 : arg7.IsWhole) (arg8 : Memref sig .tc .vmem S16x256x256 .fp8e4m3) (harg8 : arg8.IsWhole) (arg9 : Memref sig .tc .vmem S128x32x128 .f32) (harg9 : arg9.IsWhole) (arg10 : Memref sig .tc .vmem S128x512 .f32) (harg10 : arg10.IsWhole) :
    Prog (TpuEff nD τ sig (Elt F) Λ₀ .tc) PUnit := do
  if k0_h1 : k0_cond1 i = 1#1 then do
    let ⟨v5201, v6177, v6219, cst_3617⟩ : Σ' (v5201 : IVec S32x256 32) (v6177 : FVec F S32x256 .f32) (v6219 : IVec S32x256 1), F .f32 ← k0_part57 i arg1 harg1 arg2 harg2 arg3 harg3 arg4 harg4 arg5 harg5 arg6 harg6 arg7 harg7 arg8 harg8 arg9 harg9 arg10 harg10
    let v6223 : Vec F S1x32x256 .fp8e4m3 ← Prog.lift (.load arg8 (Rect.unit (s := S16x256x256) ![15, 160, 0] S1x32x256.size inb_S16x256x256_S1x32x256_15_160_0).toLoadRect (View.loadsAt_vmem h_S1x32x256))
    Prog.lift (.store arg8 (Rect.unit (s := S16x256x256) ![15, 160, 0] S1x32x256.size inb_S16x256x256_S1x32x256_15_160_0) (k0_pay359 v6177 v6219 cst_3617) Finset.univ (View.stores_vmem h_S1x32x256 (harg8.storeExact_slice rfl _ packedfp8e4m3_S16x256x256_S1x32x256_15_160_0) (fun _ => rfl)) (.inl rfl))
    let v6231 : Vec F S1x32x256 .fp8e4m3 ← Prog.lift (.load arg8 (Rect.unit (s := S16x256x256) ![15, 192, 0] S1x32x256.size inb_S16x256x256_S1x32x256_15_192_0).toLoadRect (View.loadsAt_vmem h_S1x32x256))
    Prog.lift (.store arg8 (Rect.unit (s := S16x256x256) ![15, 192, 0] S1x32x256.size inb_S16x256x256_S1x32x256_15_192_0) (k0_pay360 v5201 v6177) Finset.univ (View.stores_vmem h_S1x32x256 (harg8.storeExact_slice rfl _ packedfp8e4m3_S16x256x256_S1x32x256_15_192_0) (fun _ => rfl)) (.inl rfl))
    let v6239 : Vec F S1x32x256 .fp8e4m3 ← Prog.lift (.load arg8 (Rect.unit (s := S16x256x256) ![15, 224, 0] S1x32x256.size inb_S16x256x256_S1x32x256_15_224_0).toLoadRect (View.loadsAt_vmem h_S1x32x256))
    Prog.lift (.store arg8 (Rect.unit (s := S16x256x256) ![15, 224, 0] S1x32x256.size inb_S16x256x256_S1x32x256_15_224_0) (k0_pay361 v5201 v6177) Finset.univ (View.stores_vmem h_S1x32x256 (harg8.storeExact_slice rfl _ packedfp8e4m3_S16x256x256_S1x32x256_15_224_0) (fun _ => rfl)) (.inl rfl))
    pure ⟨⟩
  else do
    pure ⟨⟩

/-- The statements that follow the branch, up to the first product: the weights' scales are decoded into their scratch
    buffer and the first tiles are loaded. -/
def afterIf (i : grid0.Coords) (arg1 : Memref sig .tc .vmem S32x4096 .f32) (harg1 : arg1.IsWhole) (arg2 : Memref sig .tc .vmem S4096x512 .fp8e4m3) (harg2 : arg2.IsWhole) (arg3 : Memref sig .tc .vmem S128x512 .i8) (harg3 : arg3.IsWhole) (arg4 : Memref sig .tc .vmem S1x512 .f32) (harg4 : arg4.IsWhole) (arg5 : Memref sig .tc .vmem S32x512 .f32) (harg5 : arg5.IsWhole) (arg6 : Memref sig .tc .vmem S32x4096 .fp8e4m3) (harg6 : arg6.IsWhole) (arg7 : Memref sig .tc .vmem S32x128 .i8) (harg7 : arg7.IsWhole) (arg8 : Memref sig .tc .vmem S16x256x256 .fp8e4m3) (harg8 : arg8.IsWhole) (arg9 : Memref sig .tc .vmem S128x32x128 .f32) (harg9 : arg9.IsWhole) (arg10 : Memref sig .tc .vmem S128x512 .f32) (harg10 : arg10.IsWhole) :
    Prog (TpuEff nD τ sig (Elt F) Λ₀ .tc) (Σ' (v26 : FVec F S32x128 .f32) (v27 : FVec F S32x128 .f32) (v28 : FVec F S32x128 .f32) (v29 : FVec F S32x128 .f32) (v31 : FVec F S256x256 .fp8e4m3) (v32 : Vec F S256x512 .fp8e4m3), FVec F S256x512 .f32) := do
  let v3 : Vec F S128x512 .i8 ← Prog.lift (.load arg3 (Rect.unit (s := S128x512) ![0, 0] S128x512.size inb_S128x512_S128x512_0_0).toLoadRect (View.loadsAt_vmem h_S128x512))
  let v23 : Vec F S128x512 .f32 ← Prog.lift (.load arg10 (Rect.unit (s := S128x512) ![0, 0] S128x512.size inb_S128x512_S128x512_0_0).toLoadRect (View.loadsAt_vmem h_S128x512))
  Prog.lift (.store arg10 (Rect.unit (s := S128x512) ![0, 0] S128x512.size inb_S128x512_S128x512_0_0) (k0_pay362 v3) Finset.univ (View.stores_vmem_bits_univ h_S128x512 rfl) (.inl rfl))
  let v30 : Vec F S1x256x256 .fp8e4m3 ← Prog.lift (.load arg8 (Rect.unit (s := S16x256x256) ![0, 0, 0] S1x256x256.size inb_S16x256x256_S1x256x256_0_0_0).toLoadRect (View.loadsAt_vmem h_S1x256x256))
  let v32 : Vec F S256x512 .fp8e4m3 ← Prog.lift (.load arg2 (Rect.unit (s := S4096x512) ![0, 0] S256x512.size inb_S4096x512_S256x512_0_0).toLoadRect (View.loadsAt_vmem h_S256x512))
  have cst_14 : FVec F S256x512 .f32 := constant S256x512 .f32 0x00000000#32
  pure ⟨k0_pay363 (F := F), k0_pay364 (F := F), k0_pay365 (F := F), k0_pay366 (F := F), k0_pay367 v30, v32, cst_14⟩

/-- The printed statements are the branch, then what follows it. -/
theorem part58_eq (i : grid0.Coords) (arg1 : Memref sig .tc .vmem S32x4096 .f32) (harg1 : arg1.IsWhole) (arg2 : Memref sig .tc .vmem S4096x512 .fp8e4m3) (harg2 : arg2.IsWhole) (arg3 : Memref sig .tc .vmem S128x512 .i8) (harg3 : arg3.IsWhole) (arg4 : Memref sig .tc .vmem S1x512 .f32) (harg4 : arg4.IsWhole) (arg5 : Memref sig .tc .vmem S32x512 .f32) (harg5 : arg5.IsWhole) (arg6 : Memref sig .tc .vmem S32x4096 .fp8e4m3) (harg6 : arg6.IsWhole) (arg7 : Memref sig .tc .vmem S32x128 .i8) (harg7 : arg7.IsWhole) (arg8 : Memref sig .tc .vmem S16x256x256 .fp8e4m3) (harg8 : arg8.IsWhole) (arg9 : Memref sig .tc .vmem S128x32x128 .f32) (harg9 : arg9.IsWhole) (arg10 : Memref sig .tc .vmem S128x512 .f32) (harg10 : arg10.IsWhole) :
    k0_part58 (F := F) i arg1 harg1 arg2 harg2 arg3 harg3 arg4 harg4 arg5 harg5 arg6 harg6 arg7 harg7 arg8 harg8 arg9 harg9 arg10 harg10 = (quantIf (F := F) i arg1 harg1 arg2 harg2 arg3 harg3 arg4 harg4 arg5 harg5 arg6 harg6 arg7 harg7 arg8 harg8 arg9 harg9 arg10 harg10 >>= fun _ => afterIf (F := F) i arg1 harg1 arg2 harg2 arg3 harg3 arg4 harg4 arg5 harg5 arg6 harg6 arg7 harg7 arg8 harg8 arg9 harg9 arg10 harg10) := by
  rw [k0_part58_eq_skeleton]
  unfold k0_part58_skel quantIf
  by_cases hc : k0_cond1 i = 1#1
  · simp only [dif_pos hc]
    rw [Prog.bind_assoc]; rfl
  · simp only [dif_neg hc]; rfl

end Cert.KernelIdeal.Body

end
-- ==== Proof.Body.QuantRun.lean ====
/- The quantising branch of the kernel's body, run once: from the activations' buffer it fills the codes, the
   scales and the two scratch buffers that later points read. The lists of writes it leaves in the four buffers
   are the witness the run finds. -/
module

public import proofs.«01_k».proof.Proof.Body.Base

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 8000000 in
set_option sl_exec.resultNames true in
/-- The branch taken: on whole buffers, the activations' at `x0`, it ends with the activations as they were and the
    four buffers it fills holding the writes listed. -/
noncomputable def quantRun (c : Dev nD) (i : grid0.Coords) (arg1 : Memref sig .tc .vmem S32x4096 .f32) (harg1 : arg1.IsWhole) (arg2 : Memref sig .tc .vmem S4096x512 .fp8e4m3) (harg2 : arg2.IsWhole) (arg3 : Memref sig .tc .vmem S128x512 .i8) (harg3 : arg3.IsWhole) (arg4 : Memref sig .tc .vmem S1x512 .f32) (harg4 : arg4.IsWhole) (arg5 : Memref sig .tc .vmem S32x512 .f32) (harg5 : arg5.IsWhole) (arg6 : Memref sig .tc .vmem S32x4096 .fp8e4m3) (harg6 : arg6.IsWhole) (arg7 : Memref sig .tc .vmem S32x128 .i8) (harg7 : arg7.IsWhole) (arg8 : Memref sig .tc .vmem S16x256x256 .fp8e4m3) (harg8 : arg8.IsWhole) (arg9 : Memref sig .tc .vmem S128x32x128 .f32) (harg9 : arg9.IsWhole) (arg10 : Memref sig .tc .vmem S128x512 .f32) (harg10 : arg10.IsWhole) (hc0 : cond0_0 i) (x0 : Vec F S32x4096 .f32) :
    Σ' (L5 : List (View.Piece (Elt F) S32x4096 .fp8e4m3)), Σ' (L6 : List (View.Piece (Elt F) S32x128 .i8)), Σ' (LS0 : List (View.Piece (Elt F) S16x256x256 .fp8e4m3)), { LS1 : List (View.Piece (Elt F) S128x32x128 .f32) //
      ∀ (E : Set ℕ) (K : PUnit → sProp 𝕄),
        iprop(owns (c : Thread nD τ) arg1 fullShare x0 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (quantIf i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    unfold quantIf
    simp only [k0_part57_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
    unfold owns
    iintro ⟨⟨%f0, %hf0, H0⟩, ⟨%d5, %f5, -, H5⟩, ⟨%d6, %f6, -, H6⟩, ⟨%ds0, %fs0, -, HS0⟩, ⟨%ds1, %fs1, -, HS1⟩, Hk⟩
    obtain rfl := harg1.eq_unread hf0
    sl_exec (disch := first | sl_exact hc0)
    sl_step
    iapply Hk
    isplitl [H0]
    · iexists _; isplitr; · ipureintro; exact harg1.read_unread _
      iexact H0
    isplitl [H5]; · iexists _; iexact H5
    isplitl [H6]; · iexists _; iexact H6
    isplitl [HS0]; · iexists _; iexact HS0
    iexists _; iexact HS1

end Cert.KernelIdeal.Body

end
-- ==== Proof.Body.RestRun.lean ====
/- The kernel's body after its branch, run once for both cases: from the weights, their scales, the bias and the two
   scratch buffers the branch filled (at this point or an earlier one), it fills the output block. The list of
   writes it leaves in the output's buffer is the witness the run finds. -/
module

public import proofs.«01_k».proof.Proof.Body.Base

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 8000000 in
set_option sl_exec.resultNames true in
/-- Given what the branch does (`h`: from `P` it leaves `S` and the two scratch buffers at `xs0` and `xs1`), the whole
    body from `P` and the other buffers leaves the inputs as they were and the output's buffer holding the writes
    listed. -/
noncomputable def restRun (c : Dev nD) (i : grid0.Coords) (arg1 : Memref sig .tc .vmem S32x4096 .f32) (harg1 : arg1.IsWhole) (arg2 : Memref sig .tc .vmem S4096x512 .fp8e4m3) (harg2 : arg2.IsWhole) (arg3 : Memref sig .tc .vmem S128x512 .i8) (harg3 : arg3.IsWhole) (arg4 : Memref sig .tc .vmem S1x512 .f32) (harg4 : arg4.IsWhole) (arg5 : Memref sig .tc .vmem S32x512 .f32) (harg5 : arg5.IsWhole) (arg6 : Memref sig .tc .vmem S32x4096 .fp8e4m3) (harg6 : arg6.IsWhole) (arg7 : Memref sig .tc .vmem S32x128 .i8) (harg7 : arg7.IsWhole) (arg8 : Memref sig .tc .vmem S16x256x256 .fp8e4m3) (harg8 : arg8.IsWhole) (arg9 : Memref sig .tc .vmem S128x32x128 .f32) (harg9 : arg9.IsWhole) (arg10 : Memref sig .tc .vmem S128x512 .f32) (harg10 : arg10.IsWhole)
    (x1 : Vec F S4096x512 .fp8e4m3) (x2 : Vec F S128x512 .i8) (x3 : Vec F S1x512 .f32) (xs0 : Vec F S16x256x256 .fp8e4m3) (xs1 : Vec F S128x32x128 .f32) :
    Σ' (L4 : List (View.Piece (Elt F) S32x512 .f32)), { LT2 : List (View.Piece (Elt F) S128x512 .f32) //
      ∀ (E : Set ℕ) (K : PUnit → sProp 𝕄) (P S : sProp 𝕄)
        (h : ∀ Q : PUnit → sProp 𝕄, iprop(P ∗ (iprop(S ∗ owns (c : Thread nD τ) arg8 fullShare xs0 ∗ owns (c : Thread nD τ) arg9 fullShare xs1) -∗ Q ⟨⟩))
          ⊢ wp frame (wpE (defs₀ (F := F)) Variants.none c none) E (quantIf i arg1 harg1 arg2 harg2 arg3 harg3 arg4 harg4 arg5 harg5 arg6 harg6 arg7 harg7 arg8 harg8 arg9 harg9 arg10 harg10) Q),
        iprop(P ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg10 fullShare d)
            ∗ (iprop(S ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg8 fullShare xs0 ∗ owns (c : Thread nD τ) arg9 fullShare xs1 ∗ (∃ f, arg10.view.loc (c : Thread nD τ) ↦[arg10.view.set]{fullShare} arg10.view.writes (Elt F) f LT2)) -∗ K ⟨⟩))
          ⊢ wp frame (wpE (defs₀ (F := F)) Variants.none c none) E (cc0_mxfp8_linear i arg1 harg1 arg2 harg2 arg3 harg3 arg4 harg4 arg5 harg5 arg6 harg6 arg7 harg7 arg8 harg8 arg9 harg9 arg10 harg10) K } := by
  refine ⟨?_, ?_, fun E K P S h => ?run⟩
  case run =>
    rw [cc0_mxfp8_linear_eq_skeleton]; unfold cc0_mxfp8_linear_skel
    rw [wp_bind, k0_part173_eq_skeleton]; unfold k0_part173_skel
    rw [wp_bind, part58_eq, wp_bind]; unfold afterIf
    simp only [k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part174_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton]
    unfold owns at h ⊢
    iintro ⟨HP, ⟨%f1, %hf1, H1⟩, ⟨%f2, %hf2, H2⟩, ⟨%f3, %hf3, H3⟩, ⟨%d4, %f4, -, H4⟩, ⟨%ds2, %fs2, -, HS2⟩, Hk⟩
    obtain rfl := harg2.eq_unread hf1; obtain rfl := harg3.eq_unread hf2; obtain rfl := harg4.eq_unread hf3
    iapply (h _)
    isplitl [HP]; · iexact HP
    iintro ⟨HS, ⟨%fs0, %hfs0, HS0⟩, ⟨%fs1, %hfs1, HS1⟩⟩
    obtain rfl := harg8.eq_unread hfs0; obtain rfl := harg9.eq_unread hfs1
    rw [← wp_bind, ← wp_bind]
    sl_exec
    sl_step
    iapply Hk
    isplitl [HS]; · iexact HS
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]
    · iexists _; isplitr; · ipureintro; exact harg8.read_unread _
      iexact HS0
    isplitl [HS1]
    · iexists _; isplitr; · ipureintro; exact harg9.read_unread _
      iexact HS1
    iexists _; iexact HS2

end Cert.KernelIdeal.Body

end
-- ==== Proof.Body.Chain.lean ====
/- The accumulation in the kernel's body as a recurrence: every scale block is one and the same step, so the four
   column chunks the body stores are 128 iterations of that step and the bias. -/
module

public import proofs.«01_k».proof.Proof.Body.RestRun

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- Rows `32 * (g % 8) …` and columns `128 * j …` of a 256 x 512 tile lie inside it. -/
theorem slices_step (g : ℕ) (j : Fin 4) : S256x512.Slices ![32 * (g % 8), 128 * j.val] S32x128 := by
  refine ⟨rfl, fun a => ?_⟩; fin_cases a
  · show 32 * (g % 8) + 32 ≤ 256; omega
  · show 128 * j.val + 128 ≤ 512; omega

/-- Row `g % 128` and columns `128 * j …` of the weights' scales lie inside them. -/
theorem inb_sw (g : ℕ) (j : Fin 4) : ∀ a, (![g % 128, 128 * j.val] : Fin 2 → ℕ) a + S1x128.size a ≤ S128x512.size a := by
  intro a; fin_cases a
  · show g % 128 + 1 ≤ 128; omega
  · show 128 * j.val + 128 ≤ 512; omega

/-- Row `g % 128` of the activations' scales lies inside them. -/
theorem inb_sx (g : ℕ) : ∀ a, (![g % 128, 0, 0] : Fin 3 → ℕ) a + S1x32x128.size a ≤ S128x32x128.size a := by
  intro a; fin_cases a
  · show g % 128 + 1 ≤ 128; omega
  · show 0 + 32 ≤ 32; omega
  · show 0 + 128 ≤ 128; omega

/-- Tile `t % 16` of the left operand lies inside it. -/
theorem inb_lhs (t : ℕ) : ∀ a, (![t % 16, 0, 0] : Fin 3 → ℕ) a + S1x256x256.size a ≤ S16x256x256.size a := by
  intro a; fin_cases a
  · show t % 16 + 1 ≤ 16; omega
  · show 0 + 256 ≤ 256; omega
  · show 0 + 256 ≤ 256; omega

/-- Rows `256 * (t % 16) …` of the weights lie inside them. -/
theorem inb_w (t : ℕ) : ∀ a, (![256 * (t % 16), 0] : Fin 2 → ℕ) a + S256x512.size a ≤ S4096x512.size a := by
  intro a; fin_cases a
  · show 256 * (t % 16) + 256 ≤ 4096; omega
  · show 0 + 512 ≤ 512; omega

/-- The column chunk `j` of the output and of the bias. -/
theorem inb_y (j : Fin 4) : ∀ a, (![0, 128 * j.val] : Fin 2 → ℕ) a + S32x128.size a ≤ S32x512.size a := by
  intro a; fin_cases a
  · show 0 + 32 ≤ 32; omega
  · show 128 * j.val + 128 ≤ 512; omega

@[inherit_doc inb_y] theorem inb_b (j : Fin 4) : ∀ a, (![0, 128 * j.val] : Fin 2 → ℕ) a + S1x128.size a ≤ S1x512.size a := by
  intro a; fin_cases a
  · show 0 + 1 ≤ 1; omega
  · show 128 * j.val + 128 ≤ 512; omega

/-- One scale block added to a column chunk of the output: `A` is the product tile, `w` the weights' scales of the
    block, `x` the activations' scales of the block. -/
def step (A : FVec F S256x512 .f32) (w : Vec F S1x128 .f32) (x : Vec F S1x32x128 .f32) (j : Fin 4) (g : ℕ) (y : FVec F S32x128 .f32) : FVec F S32x128 .f32 :=
  addf y (mulf (mulf (extractStridedSlice S32x128 ![32 * (g % 8), 128 * j.val] A (slices_step g j))
    (broadcastTo S32x128 w broadcasts_S1x128_S32x128)) (shapeCast S32x128 x shapeCasts_S1x32x128_S32x128))

/-- The first `n` scale blocks accumulated, from zero. -/
def chain (A : ℕ → FVec F S256x512 .f32) (w : ℕ → Vec F S1x128 .f32) (x : ℕ → Vec F S1x32x128 .f32) (j : Fin 4) (n : ℕ) : FVec F S32x128 .f32 :=
  Nat.rec (broadcast S32x128 (Scalar.ofBits .f32 0x00000000#32)) (fun g y => step (A (g / 8)) (w g) (x g) j g y) n

/-- Product tile `t`: 256 rows of the left operand's tile against 256 rows of the weights. -/
def tile (arg2 : Memref sig .tc .vmem S4096x512 .fp8e4m3) (harg2 : arg2.IsWhole) (arg8 : Memref sig .tc .vmem S16x256x256 .fp8e4m3) (harg8 : arg8.IsWhole)
    (x1 : Vec F S4096x512 .fp8e4m3) (xs0 : Vec F S16x256x256 .fp8e4m3) (t : ℕ) : FVec F S256x512 .f32 :=
  matmul dot_S256x256_S256x512_S256x512_1_0_0_1_n_n none
    (shapeCast S256x256 (View.readAt (Elt F) arg8.view (Rect.unit (s := S16x256x256) ![t % 16, 0, 0] S1x256x256.size (inb_lhs t)).toLoadRect (harg8.unread xs0)) shapeCasts_S1x256x256_S256x256)
    (View.readAt (Elt F) arg2.view (Rect.unit (s := S4096x512) ![256 * (t % 16), 0] S256x512.size (inb_w t)).toLoadRect (harg2.unread x1))
    (constant S256x512 .f32 0x00000000#32)

section
variable (c : Dev nD) (i : grid0.Coords) (arg1 : Memref sig .tc .vmem S32x4096 .f32) (harg1 : arg1.IsWhole) (arg2 : Memref sig .tc .vmem S4096x512 .fp8e4m3) (harg2 : arg2.IsWhole) (arg3 : Memref sig .tc .vmem S128x512 .i8) (harg3 : arg3.IsWhole) (arg4 : Memref sig .tc .vmem S1x512 .f32) (harg4 : arg4.IsWhole) (arg5 : Memref sig .tc .vmem S32x512 .f32) (harg5 : arg5.IsWhole) (arg6 : Memref sig .tc .vmem S32x4096 .fp8e4m3) (harg6 : arg6.IsWhole) (arg7 : Memref sig .tc .vmem S32x128 .i8) (harg7 : arg7.IsWhole) (arg8 : Memref sig .tc .vmem S16x256x256 .fp8e4m3) (harg8 : arg8.IsWhole) (arg9 : Memref sig .tc .vmem S128x32x128 .f32) (harg9 : arg9.IsWhole) (arg10 : Memref sig .tc .vmem S128x512 .f32) (harg10 : arg10.IsWhole)
    (x1 : Vec F S4096x512 .fp8e4m3) (x2 : Vec F S128x512 .i8) (x3 : Vec F S1x512 .f32) (xs0 : Vec F S16x256x256 .fp8e4m3) (xs1 : Vec F S128x32x128 .f32)

/-- The weights' scales decoded: what the body stores into their scratch buffer. -/
def swPiece : List (View.Piece (Elt F) S128x512 .f32) :=
  [⟨Rect.unit (s := S128x512) ![0, 0] S128x512.size inb_S128x512_S128x512_0_0,
    k0_pay362 (View.readAt (Elt F) arg3.view (Rect.unit (s := S128x512) ![0, 0] S128x512.size inb_S128x512_S128x512_0_0).toLoadRect (harg3.unread x2))⟩]

/-- Column chunk `j` of the output as the body stores it. -/
def yPiece (j : Fin 4) : View.Piece (Elt F) S32x512 .f32 :=
  ⟨Rect.unit (s := S32x512) ![0, 128 * j.val] S32x128.size (inb_y j),
    addf (chain (tile arg2 harg2 arg8 harg8 x1 xs0)
        (fun g => arg10.view.readCov (swPiece arg3 harg3 x2) (Rect.unit (s := S128x512) ![g % 128, 128 * j.val] S1x128.size (inb_sw g j)).toLoadRect)
        (fun g => View.readAt (Elt F) arg9.view (Rect.unit (s := S128x32x128) ![g % 128, 0, 0] S1x32x128.size (inb_sx g)).toLoadRect (harg9.unread xs1)) j 128)
      (broadcastTo S32x128 (shapeCast S1x128 (View.readAt (Elt F) arg4.view (Rect.unit (s := S1x512) ![0, 128 * j.val] S1x128.size (inb_b j)).toLoadRect (harg4.unread x3)) shapeCasts_S1x128_S1x128) broadcasts_S1x128_S32x128)⟩

/-- The writes the body leaves in the output's buffer are the four chunks. -/
theorem restRun_writes :
    (restRun c i arg1 harg1 arg2 harg2 arg3 harg3 arg4 harg4 arg5 harg5 arg6 harg6 arg7 harg7 arg8 harg8 arg9 harg9 arg10 harg10 x1 x2 x3 xs0 xs1).1
      = [yPiece arg2 harg2 arg3 harg3 arg4 harg4 arg8 harg8 arg9 harg9 arg10 x1 x2 x3 xs0 xs1 3, yPiece arg2 harg2 arg3 harg3 arg4 harg4 arg8 harg8 arg9 harg9 arg10 x1 x2 x3 xs0 xs1 2,
        yPiece arg2 harg2 arg3 harg3 arg4 harg4 arg8 harg8 arg9 harg9 arg10 x1 x2 x3 xs0 xs1 1, yPiece arg2 harg2 arg3 harg3 arg4 harg4 arg8 harg8 arg9 harg9 arg10 x1 x2 x3 xs0 xs1 0] := by
  sl_kernel_rfl

end

end Cert.KernelIdeal.Body

end
-- ==== Proof.Body.QuantLists.lean ====
/- What the quantising branch writes, block by block: the lists the run found are one whole write of the codes, one of
   the scales, and 128 writes of one form into each of the two scratch buffers. -/
module

public import proofs.«01_k».proof.Proof.Body.QuantRun
public import proofs.«01_k».proof.Proof.Body.Chain

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The bits of `2 ^ (k - 127)` in single precision. -/
def p2 (k : ℕ) : BitVec 32 := BitVec.ofNat 32 (k * 8388608)

section
variable {s : Shape}

/-- One rung up: where the value is at least `2 ^ (n - 1)` it is divided by `2 ^ n` and `n` is added to the exponent. -/
def upV (n : ℕ) (p : FVec F s .f32 × IVec s 32) : FVec F s .f32 × IVec s 32 :=
  (select (cmpf .oge p.1 (broadcast s (Scalar.ofBits .f32 (p2 (126 + n))))) (mulf p.1 (broadcast s (Scalar.ofBits .f32 (p2 (127 - n))))) p.1,
   select (cmpf .oge p.1 (broadcast s (Scalar.ofBits .f32 (p2 (126 + n))))) (addi p.2 (broadcast s (BitVec.ofNat 32 n))) p.2)

/-- One rung down: where the value is below `2 ^ (-n)` it is multiplied by `2 ^ n` and `n` is taken from the exponent. -/
def downV (n : ℕ) (p : FVec F s .f32 × IVec s 32) : FVec F s .f32 × IVec s 32 :=
  (select (cmpf .olt p.1 (broadcast s (Scalar.ofBits .f32 (p2 (127 - n))))) (mulf p.1 (broadcast s (Scalar.ofBits .f32 (p2 (127 + n))))) p.1,
   select (cmpf .olt p.1 (broadcast s (Scalar.ofBits .f32 (p2 (127 - n))))) (subi p.2 (broadcast s (BitVec.ofNat 32 n))) p.2)

/-- The ladder of comparisons: eight rungs up, eight rungs down. -/
def ladderV (v : FVec F s .f32) : FVec F s .f32 × IVec s 32 :=
  downV 1 (downV 1 (downV 2 (downV 5 (downV 9 (downV 19 (downV 37 (downV 74
    (upV 1 (upV 1 (upV 2 (upV 4 (upV 8 (upV 16 (upV 32 (upV 64 (v, broadcast s 0#32))))))))))))))))

/-- `2 ^ n` from its bits: a subnormal's below `-126`, infinity's from `128` on. -/
def pow2V {s : Shape} (n : IVec s 32) : FVec F s .f32 :=
  bitcastToFloat .f32 (select (cmpi .slt n (broadcast s 4294967170#32))
    (shli (broadcast s 1#32) (maxsi (addi n (broadcast s 149#32)) (broadcast s 0#32)))
    (shli (addi (minsi n (broadcast s 128#32)) (broadcast s 127#32)) (broadcast s 23#32)))

/-- The exponent of a block whose largest magnitude is `a`: `0` where the scaled magnitude is zero or infinite, else the ladder's. -/
def expoV (a : FVec F s .f32) : IVec s 32 :=
  select (cmpf .oeq a (broadcast s (Scalar.ofBits .f32 0x00000000#32))) (broadcast s 0#32)
    (select (ori (cmpf .oeq (mulf a (broadcast s (Scalar.ofBits .f32 0x3B124925#32))) (broadcast s (Scalar.ofBits .f32 0x00000000#32)))
        (cmpf .oeq (mulf a (broadcast s (Scalar.ofBits .f32 0x3B124925#32))) (broadcast s (Scalar.ofBits .f32 0x7F800000#32))))
      (broadcast s 0#32) (ladderV (mulf a (broadcast s (Scalar.ofBits .f32 0x3B124925#32)))).2)

end

/-- The exponents of the 128 x 32 blocks of the activations. -/
def expos (x : Vec F S32x4096 .f32) : IVec S128x32 32 := expoV (k0_pay2 x)

/-- The activations scaled by their block's power of two and clipped to the codes' range. -/
def clipped (x : Vec F S32x4096 .f32) : FVec F S32x4096 .f32 :=
  transpose S32x4096 [1, 0] (shapeCast S4096x32
    (minimumf (broadcast S128x32x32 (Scalar.ofBits .f32 0x43E00000#32)) (maximumf (broadcast S128x32x32 (Scalar.ofBits .f32 0xC3E00000#32))
      (mulf (k0_pay1 x) (broadcastTo S128x32x32 (shapeCast S128x1x32 (pow2V (subi (broadcast S128x32 0#32) (expos x))) shapeCasts_S128x32_S128x1x32) broadcasts_S128x1x32_S128x32x32))))
    shapeCasts_S128x32x32_S4096x32) transposes_S4096x32_p1_0_S32x4096

/-- The biased exponents, a row's blocks along the columns. -/
def biased (x : Vec F S32x4096 .f32) : IVec S32x128 32 :=
  transpose S32x128 [1, 0] (addi (expos x) (broadcast S128x32 127#32)) transposes_S128x32_p1_0_S32x128

/-- The activations' scales decoded from the low byte of the biased exponents. -/
def sxAll (x : Vec F S32x4096 .f32) : FVec F S32x128 .f32 :=
  pow2V (subi (andi (biased x) (broadcast S32x128 255#32)) (broadcast S32x128 127#32))

/-- Column `g % 128` of the scales lies inside them. -/
theorem slices_sx (g : ℕ) : S32x128.Slices ![0, g % 128] S32x1 := by
  refine ⟨rfl, fun a => ?_⟩; fin_cases a
  · show 0 + 32 ≤ 32; omega
  · show g % 128 + 1 ≤ 128; omega

/-- The 256 columns of tile `g / 8` of the clipped activations lie inside them. -/
theorem slices_lhs (g : ℕ) : S32x4096.Slices ![0, 256 * (g / 8 % 16)] S32x256 := by
  refine ⟨rfl, fun a => ?_⟩; fin_cases a
  · show 0 + 32 ≤ 32; omega
  · show 256 * (g / 8 % 16) + 256 ≤ 4096; omega

/-- Where block `g`'s masked copy of its tile lies in the left operand. -/
theorem inb_lhsPiece (g : ℕ) : ∀ a, (![g / 8 % 16, 32 * (g % 8), 0] : Fin 3 → ℕ) a + S1x32x256.size a ≤ S16x256x256.size a := by
  intro a; fin_cases a
  · show g / 8 % 16 + 1 ≤ 16; omega
  · show 32 * (g % 8) + 32 ≤ 256; omega
  · show 0 + 256 ≤ 256; omega

/-- What is stored for block `g` of the activations' scales: column `g` repeated along 128 lanes. -/
def sxPiece (x : Vec F S32x4096 .f32) (g : ℕ) : View.Piece (Elt F) S128x32x128 .f32 :=
  ⟨Rect.unit (s := S128x32x128) ![g % 128, 0, 0] S1x32x128.size (inb_sx g),
    shapeCast S1x32x128 (broadcastTo S32x128 (shapeCast S32x1 (extractStridedSlice S32x1 ![0, g % 128] (sxAll x) (slices_sx g)) shapeCasts_S32x1_S32x1)
      broadcasts_S32x1_S32x128) shapeCasts_S32x128_S1x32x128⟩

/-- What is stored for block `g` of the left operand: its tile of the clipped activations with the other blocks' lanes zero. -/
def lhsPiece (x : Vec F S32x4096 .f32) (g : ℕ) : View.Piece (Elt F) S16x256x256 .fp8e4m3 :=
  ⟨Rect.unit (s := S16x256x256) ![g / 8 % 16, 32 * (g % 8), 0] S1x32x256.size (inb_lhsPiece g),
    shapeCast S1x32x256 (truncf .fp8e4m3 (select (cmpi .eq k0_pay194 (broadcast S32x256 (BitVec.ofNat 32 (g % 8))))
      (extractStridedSlice S32x256 ![0, 256 * (g / 8 % 16)] (clipped x) (slices_lhs g)) (broadcast S32x256 (Scalar.ofBits .f32 0x00000000#32))) bitsLt_fp8e4m3_f32)
      shapeCasts_S32x256_S1x32x256⟩

/-- The blocks' numbers from the last to the first, as the run lists them. -/
def blocksDown : ℕ → List ℕ
  | 0 => []
  | n + 1 => n :: blocksDown n

section
variable (c : Dev nD) (i : grid0.Coords) (arg1 : Memref sig .tc .vmem S32x4096 .f32) (harg1 : arg1.IsWhole) (arg2 : Memref sig .tc .vmem S4096x512 .fp8e4m3) (harg2 : arg2.IsWhole) (arg3 : Memref sig .tc .vmem S128x512 .i8) (harg3 : arg3.IsWhole) (arg4 : Memref sig .tc .vmem S1x512 .f32) (harg4 : arg4.IsWhole) (arg5 : Memref sig .tc .vmem S32x512 .f32) (harg5 : arg5.IsWhole) (arg6 : Memref sig .tc .vmem S32x4096 .fp8e4m3) (harg6 : arg6.IsWhole) (arg7 : Memref sig .tc .vmem S32x128 .i8) (harg7 : arg7.IsWhole) (arg8 : Memref sig .tc .vmem S16x256x256 .fp8e4m3) (harg8 : arg8.IsWhole) (arg9 : Memref sig .tc .vmem S128x32x128 .f32) (harg9 : arg9.IsWhole) (arg10 : Memref sig .tc .vmem S128x512 .f32) (harg10 : arg10.IsWhole) (hc0 : cond0_0 i) (x0 : Vec F S32x4096 .f32)

/-- The activations as the body loads them. -/
def xRead : Vec F S32x4096 .f32 :=
  View.readAt (Elt F) arg1.view (Rect.unit (s := S32x4096) ![0, 0] S32x4096.size inb_S32x4096_S32x4096_0_0).toLoadRect (harg1.unread x0)

/-- The codes are written once, whole. -/
theorem quantRun_codes :
    (quantRun c i arg1 harg1 arg2 harg2 arg3 harg3 arg4 harg4 arg5 harg5 arg6 harg6 arg7 harg7 arg8 harg8 arg9 harg9 arg10 harg10 hc0 x0).1
      = [⟨Rect.unit (s := S32x4096) ![0, 0] S32x4096.size inb_S32x4096_S32x4096_0_0, truncf .fp8e4m3 (clipped (xRead arg1 harg1 x0)) bitsLt_fp8e4m3_f32⟩] := by
  sl_kernel_rfl

/-- The scales are written once, whole. -/
theorem quantRun_scales :
    (quantRun c i arg1 harg1 arg2 harg2 arg3 harg3 arg4 harg4 arg5 harg5 arg6 harg6 arg7 harg7 arg8 harg8 arg9 harg9 arg10 harg10 hc0 x0).2.1
      = [⟨Rect.unit (s := S32x128) ![0, 0] S32x128.size inb_S32x128_S32x128_0_0, trunci 8 (biased (xRead arg1 harg1 x0)) natLt_8_32⟩] := by
  sl_kernel_rfl

/-- The left operand is written block by block. -/
theorem quantRun_lhs :
    (quantRun c i arg1 harg1 arg2 harg2 arg3 harg3 arg4 harg4 arg5 harg5 arg6 harg6 arg7 harg7 arg8 harg8 arg9 harg9 arg10 harg10 hc0 x0).2.2.1 = (blocksDown 128).map (lhsPiece (xRead arg1 harg1 x0)) := by
  sl_kernel_rfl

/-- The decoded scales are written block by block. -/
theorem quantRun_sx :
    (quantRun c i arg1 harg1 arg2 harg2 arg3 harg3 arg4 harg4 arg5 harg5 arg6 harg6 arg7 harg7 arg8 harg8 arg9 harg9 arg10 harg10 hc0 x0).2.2.2.1 = (blocksDown 128).map (sxPiece (xRead arg1 harg1 x0)) := by
  sl_kernel_rfl

end

end Cert.KernelIdeal.Body

end
-- ==== Proof.Body.Spec.lean ====
/- What the body's two halves leave, as functions of the blocks alone: the buffers' contents are read off the lists of
   writes, no buffer named. -/
module

public import proofs.«01_k».proof.Proof.Body.QuantLists
public import Idealize.ShloMosaic.Lib.Pipeline.ValueKit.Basic
public import Idealize.ShloMosaic.Lib.Pipeline.ValueKit.Tiles

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The codes of the activations `x`. -/
def codesOf (x : Vec F S32x4096 .f32) : Vec F S32x4096 .fp8e4m3 := truncf .fp8e4m3 (clipped x) bitsLt_fp8e4m3_f32

/-- The scales of the activations `x`. -/
def scalesOf (x : Vec F S32x4096 .f32) : Vec F S32x128 .i8 := trunci 8 (biased x) natLt_8_32

/-- The left operand of the products: every block's masked tile. -/
def lhsOf (x : Vec F S32x4096 .f32) : Vec F S16x256x256 .fp8e4m3 := View.canon ((blocksDown 128).map (lhsPiece x))

/-- The activations' scales, each repeated along 128 lanes. -/
def sxOf (x : Vec F S32x4096 .f32) : Vec F S128x32x128 .f32 := View.canon ((blocksDown 128).map (sxPiece x))

/-- The weights' scales decoded. -/
def swOf (s : Vec F S128x512 .i8) : FVec F S128x512 .f32 := k0_pay362 s

/-- Product tile `t` of the left operand and the weights. -/
def tileOf (w : Vec F S4096x512 .fp8e4m3) (l : Vec F S16x256x256 .fp8e4m3) (t : ℕ) : FVec F S256x512 .f32 :=
  matmul dot_S256x256_S256x512_S256x512_1_0_0_1_n_n none
    (shapeCast S256x256 (View.ld l (Rect.unit (s := S16x256x256) ![t % 16, 0, 0] S1x256x256.size (inb_lhs t))) shapeCasts_S1x256x256_S256x256)
    (View.ld w (Rect.unit (s := S4096x512) ![256 * (t % 16), 0] S256x512.size (inb_w t)))
    (constant S256x512 .f32 0x00000000#32)

/-- Column chunk `j` of the output block. -/
def chunkOf (w : Vec F S4096x512 .fp8e4m3) (s : Vec F S128x512 .i8) (b : Vec F S1x512 .f32) (l : Vec F S16x256x256 .fp8e4m3) (sx : Vec F S128x32x128 .f32)
    (j : Fin 4) : FVec F S32x128 .f32 :=
  addf (chain (tileOf w l) (fun g => View.ld (swOf s) (Rect.unit (s := S128x512) ![g % 128, 128 * j.val] S1x128.size (inb_sw g j)))
      (fun g => View.ld sx (Rect.unit (s := S128x32x128) ![g % 128, 0, 0] S1x32x128.size (inb_sx g))) j 128)
    (broadcastTo S32x128 (shapeCast S1x128 (View.ld b (Rect.unit (s := S1x512) ![0, 128 * j.val] S1x128.size (inb_b j))) shapeCasts_S1x128_S1x128) broadcasts_S1x128_S32x128)

/-- The same chunk with its place. -/
def chunkPiece (w : Vec F S4096x512 .fp8e4m3) (s : Vec F S128x512 .i8) (b : Vec F S1x512 .f32) (l : Vec F S16x256x256 .fp8e4m3) (sx : Vec F S128x32x128 .f32)
    (j : Fin 4) : View.Piece (Elt F) S32x512 .f32 :=
  ⟨Rect.unit (s := S32x512) ![0, 128 * j.val] S32x128.size (inb_y j), chunkOf w s b l sx j⟩

/-- The output block: its four chunks. -/
def yOf (w : Vec F S4096x512 .fp8e4m3) (s : Vec F S128x512 .i8) (b : Vec F S1x512 .f32) (l : Vec F S16x256x256 .fp8e4m3) (sx : Vec F S128x32x128 .f32) : Vec F S32x512 .f32 :=
  View.canon [chunkPiece w s b l sx 3, chunkPiece w s b l sx 2, chunkPiece w s b l sx 1, chunkPiece w s b l sx 0]

/-- A load from a whole buffer at known contents reads the contents at the rectangle. -/
theorem readAt_unread {S : Shape} {e : EltTy} (a : Memref sig .tc .vmem S e) (ha : a.IsWhole) (r : Rect S) (x : Vec F S e) :
    View.readAt (Elt F) a.view r.toLoadRect (ha.unread x) = View.ld (Val := Elt F) x r := by
  rw [View.readAt_eq_ld, ha.read_unread]

section
variable (c : Dev nD) (i : grid0.Coords) (arg1 : Memref sig .tc .vmem S32x4096 .f32) (harg1 : arg1.IsWhole) (arg2 : Memref sig .tc .vmem S4096x512 .fp8e4m3) (harg2 : arg2.IsWhole) (arg3 : Memref sig .tc .vmem S128x512 .i8) (harg3 : arg3.IsWhole) (arg4 : Memref sig .tc .vmem S1x512 .f32) (harg4 : arg4.IsWhole) (arg5 : Memref sig .tc .vmem S32x512 .f32) (harg5 : arg5.IsWhole) (arg6 : Memref sig .tc .vmem S32x4096 .fp8e4m3) (harg6 : arg6.IsWhole) (arg7 : Memref sig .tc .vmem S32x128 .i8) (harg7 : arg7.IsWhole) (arg8 : Memref sig .tc .vmem S16x256x256 .fp8e4m3) (harg8 : arg8.IsWhole) (arg9 : Memref sig .tc .vmem S128x32x128 .f32) (harg9 : arg9.IsWhole) (arg10 : Memref sig .tc .vmem S128x512 .f32) (harg10 : arg10.IsWhole)

/-- The activations as loaded are the block. -/
theorem xRead_eq (x0 : Vec F S32x4096 .f32) : xRead arg1 harg1 x0 = x0 := by
  unfold xRead; rw [readAt_unread]; exact View.ld_unit_lit _ _ (by decide)

/-- A chunk as the body stores it is the chunk as a function of the blocks. -/
theorem yPiece_eq (x1 : Vec F S4096x512 .fp8e4m3) (x2 : Vec F S128x512 .i8) (x3 : Vec F S1x512 .f32) (xs0 : Vec F S16x256x256 .fp8e4m3) (xs1 : Vec F S128x32x128 .f32) (j : Fin 4) :
    yPiece arg2 harg2 arg3 harg3 arg4 harg4 arg8 harg8 arg9 harg9 arg10 x1 x2 x3 xs0 xs1 j = chunkPiece x1 x2 x3 xs0 xs1 j := by
  have hsw : ∀ r : Rect S128x512, arg10.view.readCov (swPiece arg3 harg3 x2) r.toLoadRect = View.ld (swOf x2) r := fun r => by
    rw [View.readCov_eq_canon_ld _ _ _ (View.cover_of_tiledL _ S128x512.size (by sl_kernel_rfl))]
    congr 1
    unfold swPiece swOf
    rw [readAt_unread, View.ld_unit_lit _ _ (by decide)]
    exact View.canon_cons_unit_lit _ _ _ (by decide)
  unfold yPiece chunkPiece chunkOf
  have ht : tile arg2 harg2 arg8 harg8 x1 xs0 = tileOf x1 xs0 := by
    funext t; unfold tile tileOf; rw [readAt_unread, readAt_unread]
  simp only [hsw, readAt_unread, ht]

/-- The branch taken, its buffers' contents named. -/
theorem quant_spec (hc0 : cond0_0 i) (x0 : Vec F S32x4096 .f32) (E : Set ℕ) (K : PUnit → sProp 𝕄) :
    iprop(owns (c : Thread nD τ) arg1 fullShare x0 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
      ∗ (iprop(owns (c : Thread nD τ) arg1 fullShare x0 ∗ owns (c : Thread nD τ) arg6 fullShare (codesOf x0) ∗ owns (c : Thread nD τ) arg7 fullShare (scalesOf x0) ∗ owns (c : Thread nD τ) arg8 fullShare (lhsOf x0) ∗ owns (c : Thread nD τ) arg9 fullShare (sxOf x0)) -∗ K ⟨⟩))
    ⊢ wp frame (wpE (defs₀ (F := F)) Variants.none c none) E (quantIf i arg1 harg1 arg2 harg2 arg3 harg3 arg4 harg4 arg5 harg5 arg6 harg6 arg7 harg7 arg8 harg8 arg9 harg9 arg10 harg10) K := by
  have h5 : ∀ f, arg6.view.read (Elt F) (arg6.view.writes (Elt F) f (quantRun c i arg1 harg1 arg2 harg2 arg3 harg3 arg4 harg4 arg5 harg5 arg6 harg6 arg7 harg7 arg8 harg8 arg9 harg9 arg10 harg10 hc0 x0).1) = codesOf x0 := fun f => by
    rw [quantRun_codes, xRead_eq, View.read_writes_eq_canon _ _ _ (View.cover_of_tiledL _ S32x4096.size (by sl_kernel_rfl))]
    exact View.canon_cons_unit_lit _ _ _ (by decide)
  have h6 : ∀ f, arg7.view.read (Elt F) (arg7.view.writes (Elt F) f (quantRun c i arg1 harg1 arg2 harg2 arg3 harg3 arg4 harg4 arg5 harg5 arg6 harg6 arg7 harg7 arg8 harg8 arg9 harg9 arg10 harg10 hc0 x0).2.1) = scalesOf x0 := fun f => by
    rw [quantRun_scales, xRead_eq, View.read_writes_eq_canon _ _ _ (View.cover_of_tiledL _ S32x128.size (by sl_kernel_rfl))]
    exact View.canon_cons_unit_lit _ _ _ (by decide)
  have h8 : ∀ f, arg8.view.read (Elt F) (arg8.view.writes (Elt F) f (quantRun c i arg1 harg1 arg2 harg2 arg3 harg3 arg4 harg4 arg5 harg5 arg6 harg6 arg7 harg7 arg8 harg8 arg9 harg9 arg10 harg10 hc0 x0).2.2.1) = lhsOf x0 := fun f => by
    rw [quantRun_lhs, xRead_eq]
    exact View.read_writes_eq_canon _ _ _ (View.cover_of_tiledL _ S1x32x256.size (by sl_kernel_rfl))
  have h9 : ∀ f, arg9.view.read (Elt F) (arg9.view.writes (Elt F) f (quantRun c i arg1 harg1 arg2 harg2 arg3 harg3 arg4 harg4 arg5 harg5 arg6 harg6 arg7 harg7 arg8 harg8 arg9 harg9 arg10 harg10 hc0 x0).2.2.2.1) = sxOf x0 := fun f => by
    rw [quantRun_sx, xRead_eq]
    exact View.read_writes_eq_canon _ _ _ (View.cover_of_tiledL _ S1x32x128.size (by sl_kernel_rfl))
  iintro ⟨H1, H6, H7, H8, H9, Hk⟩
  iapply ((quantRun c i arg1 harg1 arg2 harg2 arg3 harg3 arg4 harg4 arg5 harg5 arg6 harg6 arg7 harg7 arg8 harg8 arg9 harg9 arg10 harg10 hc0 x0).2.2.2.2 E K)
  isplitl [H1]; · iexact H1
  isplitl [H6]; · iexact H6
  isplitl [H7]; · iexact H7
  isplitl [H8]; · iexact H8
  isplitl [H9]; · iexact H9
  iintro ⟨H1, ⟨%f6, H6⟩, ⟨%f7, H7⟩, ⟨%f8, H8⟩, ⟨%f9, H9⟩⟩
  iapply Hk
  isplitl [H1]; · iexact H1
  isplitl [H6]
  · unfold owns; iexists _; isplitr
    swap; · iexact H6
    ipureintro; exact h5 f6
  isplitl [H7]
  · unfold owns; iexists _; isplitr
    swap; · iexact H7
    ipureintro; exact h6 f7
  isplitl [H8]
  · unfold owns; iexists _; isplitr
    swap; · iexact H8
    ipureintro; exact h8 f8
  unfold owns; iexists _; isplitr
  swap; · iexact H9
  ipureintro; exact h9 f9

/-- The branch not taken does nothing. -/
theorem skip_spec (hc0 : ¬cond0_0 i) (E : Set ℕ) (K : PUnit → sProp 𝕄) :
    K ⟨⟩ ⊢ wp frame (wpE (defs₀ (F := F)) Variants.none c none) E (quantIf i arg1 harg1 arg2 harg2 arg3 harg3 arg4 harg4 arg5 harg5 arg6 harg6 arg7 harg7 arg8 harg8 arg9 harg9 arg10 harg10) K := by
  have h : quantIf (F := F) i arg1 harg1 arg2 harg2 arg3 harg3 arg4 harg4 arg5 harg5 arg6 harg6 arg7 harg7 arg8 harg8 arg9 harg9 arg10 harg10 = pure ⟨⟩ := by
    unfold quantIf; exact dif_neg hc0
  rw [h]
  rw [wp_pure]
  exact fupd_intro

/-- The rest of the body, the output's contents named. -/
theorem rest_spec (x1 : Vec F S4096x512 .fp8e4m3) (x2 : Vec F S128x512 .i8) (x3 : Vec F S1x512 .f32) (xs0 : Vec F S16x256x256 .fp8e4m3) (xs1 : Vec F S128x32x128 .f32)
    (E : Set ℕ) (K : PUnit → sProp 𝕄) (P S : sProp 𝕄)
    (h : ∀ Q : PUnit → sProp 𝕄, iprop(P ∗ (iprop(S ∗ owns (c : Thread nD τ) arg8 fullShare xs0 ∗ owns (c : Thread nD τ) arg9 fullShare xs1) -∗ Q ⟨⟩))
      ⊢ wp frame (wpE (defs₀ (F := F)) Variants.none c none) E (quantIf i arg1 harg1 arg2 harg2 arg3 harg3 arg4 harg4 arg5 harg5 arg6 harg6 arg7 harg7 arg8 harg8 arg9 harg9 arg10 harg10) Q) :
    iprop(P ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg10 fullShare d)
      ∗ (iprop(S ∗ owns (c : Thread nD τ) arg2 fullShare x1 ∗ owns (c : Thread nD τ) arg3 fullShare x2 ∗ owns (c : Thread nD τ) arg4 fullShare x3 ∗ owns (c : Thread nD τ) arg5 fullShare (yOf x1 x2 x3 xs0 xs1) ∗ owns (c : Thread nD τ) arg8 fullShare xs0 ∗ owns (c : Thread nD τ) arg9 fullShare xs1 ∗ (∃ d, owns (c : Thread nD τ) arg10 fullShare d)) -∗ K ⟨⟩))
    ⊢ wp frame (wpE (defs₀ (F := F)) Variants.none c none) E (cc0_mxfp8_linear i arg1 harg1 arg2 harg2 arg3 harg3 arg4 harg4 arg5 harg5 arg6 harg6 arg7 harg7 arg8 harg8 arg9 harg9 arg10 harg10) K := by
  have h5 : ∀ f, arg5.view.read (Elt F) (arg5.view.writes (Elt F) f (restRun c i arg1 harg1 arg2 harg2 arg3 harg3 arg4 harg4 arg5 harg5 arg6 harg6 arg7 harg7 arg8 harg8 arg9 harg9 arg10 harg10 x1 x2 x3 xs0 xs1).1) = yOf x1 x2 x3 xs0 xs1 := fun f => by
    rw [restRun_writes]
    simp only [yPiece_eq]
    exact View.read_writes_eq_canon _ _ _ (View.cover_of_tiledL _ S32x128.size (by sl_kernel_rfl))
  iintro ⟨HP, H2, H3, H4, H5, H10, Hk⟩
  iapply ((restRun c i arg1 harg1 arg2 harg2 arg3 harg3 arg4 harg4 arg5 harg5 arg6 harg6 arg7 harg7 arg8 harg8 arg9 harg9 arg10 harg10 x1 x2 x3 xs0 xs1).2.2 E K P S h)
  isplitl [HP]; · iexact HP
  isplitl [H2]; · iexact H2
  isplitl [H3]; · iexact H3
  isplitl [H4]; · iexact H4
  isplitl [H5]; · iexact H5
  isplitl [H10]; · iexact H10
  iintro ⟨HS, H2, H3, H4, ⟨%f5, H5⟩, H8, H9, ⟨%f10, H10⟩⟩
  iapply Hk
  isplitl [HS]; · iexact HS
  isplitl [H2]; · iexact H2
  isplitl [H3]; · iexact H3
  isplitl [H4]; · iexact H4
  isplitl [H5]
  · unfold owns; iexists _; isplitr
    swap; · iexact H5
    ipureintro; exact h5 f5
  isplitl [H8]; · iexact H8
  isplitl [H9]; · iexact H9
  iexists _; unfold owns; iexists _; isplitr
  swap; · iexact H10
  ipureintro; rfl

end

end Cert.KernelIdeal.Body

end
-- ==== Proof.Body.Frame.lean ====
/- The kernel's frame: at the first point the body quantises the activations, at every point it computes one column
   block of the output. The codes, the scales and the two scratch buffers are filled once, at the first point, and keep
   what it left.
-/
module

public import proofs.«01_k».proof.Proof.Body.Spec
public import proofs.«01_k».proof.Proof.Gen.KernelIdeal.Frame
public import Idealize.ShloMosaic.Lib.Pipeline.TableIdle
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
abbrev t0 : Fin cfg0.N := ⟨0, lt_of_lt_of_eq (by decide) (show cfg0.N = 8 from N_0).symm⟩

/-- The activations: the input's one block. -/
def xBlk (c : Dev nD) : Vec F S32x4096 .f32 := iblk m c 0 t0

/-- The output's column block at point `t`. -/
def yBlk (c : Dev nD) (t : Fin cfg0.N) : Vec F S32x512 .f32 :=
  yOf (iblk m c 1 t) (iblk m c 2 t) (iblk m c 3 t) (lhsOf (xBlk m c)) (sxOf (xBlk m c))

/-- The scoped buffers between points: before the first at anything, afterwards the two the first point fills at what it
    left in them. -/
def PhiS (c : Dev nD) : ℕ → sProp 𝕄
  | 0 => Pipeline.ΦA spec0 c
  | _ + 1 => iprop(iprop(owns (c : Thread nD τ) scM0_0 fullShare (lhsOf (xBlk m c)) ∗ owns (c : Thread nD τ) scM0_1 fullShare (sxOf (xBlk m c)) ∗ (∃ d, owns (c : Thread nD τ) scM0_2 fullShare d)) ∗ (∃ r, prngReg c r))

/-- Before the first point. -/
theorem PhiS_zero (c : Dev nD) (n : ℕ) (hz : n = 0) : PhiS m c n = Pipeline.ΦA spec0 c := by subst hz; rfl

/-- Before any later point. -/
theorem PhiS_pos (c : Dev nD) (n : ℕ) (hz : n ≠ 0) :
    PhiS m c n = iprop(iprop(owns (c : Thread nD τ) scM0_0 fullShare (lhsOf (xBlk m c)) ∗ owns (c : Thread nD τ) scM0_1 fullShare (sxOf (xBlk m c)) ∗ (∃ d, owns (c : Thread nD τ) scM0_2 fullShare d)) ∗ (∃ r, prngReg c r)) := by
  cases n with
  | zero => exact absurd rfl hz
  | succ n => rfl

/-- The pipeline's proof data on core `c`: each input's buffer holds its block after every point, the output's its
    column block, the codes' and the scales' what the first point computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yBlk m c t
    | ⟨5, _⟩ => codesOf (xBlk m c)
    | ⟨6, _⟩ => scalesOf (xBlk m c)
  Φ t := PhiS m c t.val
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
@[inherit_doc after0_0] theorem after0_1 (c : Dev nD) (t : Fin cfg0.N) : (dats m 0 c).after 1 t = iblk m c 1 t := by dsimp only [dats]
@[inherit_doc after0_0] theorem after0_2 (c : Dev nD) (t : Fin cfg0.N) : (dats m 0 c).after 2 t = iblk m c 2 t := by dsimp only [dats]
@[inherit_doc after0_0] theorem after0_3 (c : Dev nD) (t : Fin cfg0.N) : (dats m 0 c).after 3 t = iblk m c 3 t := by dsimp only [dats]
@[inherit_doc after0_0] theorem after0_4 (c : Dev nD) (t : Fin cfg0.N) : (dats m 0 c).after 4 t = yBlk m c t := by dsimp only [dats]
@[inherit_doc after0_0] theorem after0_5 (c : Dev nD) (t : Fin cfg0.N) : (dats m 0 c).after 5 t = codesOf (xBlk m c) := by dsimp only [dats]
@[inherit_doc after0_0] theorem after0_6 (c : Dev nD) (t : Fin cfg0.N) : (dats m 0 c).after 6 t = scalesOf (xBlk m c) := by dsimp only [dats]

/-- Each input's current buffer holds its block at every point. -/
theorem before0_0 (c : Dev nD) (t : Fin cfg0.N) (d) : (dats m 0 c).before 0 t d = iblk m c 0 t :=
  before0_0_of m (dats m 0 c) (A_eq m c 0) (after0_0 m c) t d
@[inherit_doc before0_0] theorem before0_1 (c : Dev nD) (t : Fin cfg0.N) (d) : (dats m 0 c).before 1 t d = iblk m c 1 t :=
  before0_1_of m (dats m 0 c) (A_eq m c 1) (after0_1 m c) t d
@[inherit_doc before0_0] theorem before0_2 (c : Dev nD) (t : Fin cfg0.N) (d) : (dats m 0 c).before 2 t d = iblk m c 2 t :=
  before0_2_of m (dats m 0 c) (A_eq m c 2) (after0_2 m c) t d
@[inherit_doc before0_0] theorem before0_3 (c : Dev nD) (t : Fin cfg0.N) (d) : (dats m 0 c).before 3 t d = iblk m c 3 t :=
  before0_3_of m (dats m 0 c) (A_eq m c 3) (after0_3 m c) t d

/-- The body stores the codes and the scales at the first point. -/
theorem idle_0 : cfg0.idle 5 (grid0.coords t0) = false ∧ cfg0.idle 6 (grid0.coords t0) = false := by decide +kernel

/-- At a later point the codes' buffer holds what the body stored. -/
theorem fresh_5 : ∀ t : Fin cfg0.N, t.val ≠ 0 → cfg0.fresh 5 t.val = false :=
  (by decide +kernel : ∀ t : Fin grid0.N, t.val ≠ 0 → cfg0.fresh 5 t.val = false)

/-- At a later point the scales' buffer holds what the body stored. -/
theorem fresh_6 : ∀ t : Fin cfg0.N, t.val ≠ 0 → cfg0.fresh 6 t.val = false :=
  (by decide +kernel : ∀ t : Fin grid0.N, t.val ≠ 0 → cfg0.fresh 6 t.val = false)

/-- At a later point the codes' buffer still holds the codes: it is written back after the last point only. -/
theorem before0_5_B (c : Dev nD) (t : Fin cfg0.N) (h0 : t.val ≠ 0) (d) : (dats m 0 c).before 5 t d = codesOf (xBlk m c) := by
  have hN : t.val < 8 := lt_of_lt_of_eq t.isLt (show cfg0.N = 8 from N_0)
  rw [(dats m 0 c).before_out_traj 5 rfl (fun _ _ => rfl) (fun t _ _ _ => by dsimp only [dats]) t.val t rfl d,
    if_neg (Bool.eq_false_iff.mp (fresh_5 t h0))]
  dsimp only [dats]

/-- At a later point the scales' buffer still holds the scales. -/
theorem before0_6_B (c : Dev nD) (t : Fin cfg0.N) (h0 : t.val ≠ 0) (d) : (dats m 0 c).before 6 t d = scalesOf (xBlk m c) := by
  have hN : t.val < 8 := lt_of_lt_of_eq t.isLt (show cfg0.N = 8 from N_0)
  rw [(dats m 0 c).before_out_traj 6 rfl (fun _ _ => rfl) (fun t _ _ _ => by dsimp only [dats]) t.val t rfl d,
    if_neg (Bool.eq_false_iff.mp (fresh_6 t h0))]
  dsimp only [dats]

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The branch at the first point. -/
theorem first_spec (c : Dev nD) (Q : PUnit → sProp 𝕄) :
    iprop(iprop(owns (c : Thread nD τ) (ms0_0 t0) fullShare (xBlk m c) ∗ (∃ d, owns (c : Thread nD τ) (ms0_5 t0) fullShare d) ∗ (∃ d, owns (c : Thread nD τ) (ms0_6 t0) fullShare d) ∗ (∃ d, owns (c : Thread nD τ) scM0_0 fullShare d) ∗ (∃ d, owns (c : Thread nD τ) scM0_1 fullShare d))
      ∗ (iprop(iprop(owns (c : Thread nD τ) (ms0_0 t0) fullShare (xBlk m c) ∗ owns (c : Thread nD τ) (ms0_5 t0) fullShare (codesOf (xBlk m c)) ∗ owns (c : Thread nD τ) (ms0_6 t0) fullShare (scalesOf (xBlk m c)))
          ∗ owns (c : Thread nD τ) scM0_0 fullShare (lhsOf (xBlk m c)) ∗ owns (c : Thread nD τ) scM0_1 fullShare (sxOf (xBlk m c))) -∗ Q ⟨⟩))
    ⊢ wp frame (wpE (defs₀ (F := F)) Variants.none c none) Set.univ (quantIf (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) scM0_0 (Memref.isWhole_whole _) scM0_1 (Memref.isWhole_whole _) scM0_2 (Memref.isWhole_whole _)) Q := by
  iintro ⟨⟨H0, H5, H6, HS0, HS1⟩, Hk⟩
  iapply (quant_spec c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) scM0_0 (Memref.isWhole_whole _) scM0_1 (Memref.isWhole_whole _) scM0_2 (Memref.isWhole_whole _)
    ((hcond0_0 t0).mpr rfl) (xBlk m c) Set.univ Q)
  isplitl [H0]; · iexact H0
  isplitl [H5]; · iexact H5
  isplitl [H6]; · iexact H6
  isplitl [HS0]; · iexact HS0
  isplitl [HS1]; · iexact HS1
  iintro ⟨H0, H5, H6, HS0, HS1⟩
  iapply Hk
  isplitl [H0 H5 H6]
  · isplitl [H0]; · iexact H0
    isplitl [H5]; · iexact H5
    iexact H6
  isplitl [HS0]; · iexact HS0
  iexact HS1

/-- The branch at a later point. -/
theorem later_spec (c : Dev nD) (t : Fin cfg0.N) (hz : t.val ≠ 0) (Q : PUnit → sProp 𝕄) :
    iprop(iprop(owns (c : Thread nD τ) scM0_0 fullShare (lhsOf (xBlk m c)) ∗ owns (c : Thread nD τ) scM0_1 fullShare (sxOf (xBlk m c)))
      ∗ (iprop(iprop(⌜True⌝) ∗ owns (c : Thread nD τ) scM0_0 fullShare (lhsOf (xBlk m c)) ∗ owns (c : Thread nD τ) scM0_1 fullShare (sxOf (xBlk m c))) -∗ Q ⟨⟩))
    ⊢ wp frame (wpE (defs₀ (F := F)) Variants.none c none) Set.univ (quantIf (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _)) Q := by
  have hN : t.val < 8 := lt_of_lt_of_eq t.isLt (show cfg0.N = 8 from N_0)
  iintro ⟨⟨HS0, HS1⟩, Hk⟩
  iapply (skip_spec c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _)
    (fun h => absurd ((hcond0_0 t).mp h) (by omega)) Set.univ Q)
  iapply Hk
  isplitr; · ipureintro; trivial
  isplitl [HS0]; · iexact HS0
  iexact HS1

set_option maxHeartbeats 1600000 in
/-- The body at any point: at the first the branch is taken and fills the codes, the scales and the scratch; at a later
    one it is not and they are as the first point left them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) from rfl, PhiS_pos m c _ (Nat.succ_ne_zero _),
    show (dats m 0 c).Φ t.castSucc = PhiS m c t.val from rfl]
  have hN : t.val < 8 := lt_of_lt_of_eq t.isLt (show cfg0.N = 8 from N_0)
  by_cases hz : t.val = 0
  · obtain rfl : t = t0 := Fin.ext hz
    rw [PhiS_zero m c _ rfl, PhiA0_eq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply (rest_spec c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) scM0_0 (Memref.isWhole_whole _) scM0_1 (Memref.isWhole_whole _) scM0_2 (Memref.isWhole_whole _)
      (iblk m c 1 t0) (iblk m c 2 t0) (iblk m c 3 t0) (lhsOf (xBlk m c)) (sxOf (xBlk m c)) Set.univ _
      iprop(owns (c : Thread nD τ) (ms0_0 t0) fullShare (xBlk m c) ∗ (∃ d, owns (c : Thread nD τ) (ms0_5 t0) fullShare d) ∗ (∃ d, owns (c : Thread nD τ) (ms0_6 t0) fullShare d) ∗ (∃ d, owns (c : Thread nD τ) scM0_0 fullShare d) ∗ (∃ d, owns (c : Thread nD τ) scM0_1 fullShare d))
      iprop(owns (c : Thread nD τ) (ms0_0 t0) fullShare (xBlk m c) ∗ owns (c : Thread nD τ) (ms0_5 t0) fullShare (codesOf (xBlk m c)) ∗ owns (c : Thread nD τ) (ms0_6 t0) fullShare (scalesOf (xBlk m c)))
      (first_spec m c))
    isplitl [H0 H5 H6 HS0 HS1]
    · isplitl [H0]; · iexact H0
      isplitl [H5]; · iexists _; iexact H5
      isplitl [H6]; · iexists _; iexact H6
      isplitl [HS0]; · iexact HS0
      iexact HS1
    isplitl [H1]; · iexact H1
    isplitl [H2]; · iexact H2
    isplitl [H3]; · iexact H3
    isplitl [H4]; · iexists _; iexact H4
    isplitl [HS2]; · iexact HS2
    iintro ⟨⟨H0, H5, H6⟩, H1, H2, H3, H4, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS_pos m c _ hz]
    simp only [before0_5_B m c t hz, before0_6_B m c t hz]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply (rest_spec c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _)
      (iblk m c 1 t) (iblk m c 2 t) (iblk m c 3 t) (lhsOf (xBlk m c)) (sxOf (xBlk m c)) Set.univ _
      iprop(owns (c : Thread nD τ) scM0_0 fullShare (lhsOf (xBlk m c)) ∗ owns (c : Thread nD τ) scM0_1 fullShare (sxOf (xBlk m c)))
      iprop(⌜True⌝)
      (later_spec m c t hz))
    isplitl [HS0 HS1]
    · isplitl [HS0]; · iexact HS0
      iexact HS1
    isplitl [H1]; · iexact H1
    isplitl [H2]; · iexact H2
    isplitl [H3]; · iexact H3
    isplitl [H4]; · iexists _; iexact H4
    isplitl [HS2]; · iexact HS2
    iintro ⟨-, H1, H2, H3, H4, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The codes in their buffer are what the pipeline expects back: what the body stored, or what it found. -/
theorem leaves_5 (c : Dev nD) (t : Fin cfg0.N) :
    owns (c : Thread nD τ) (ms0_5 t) fullShare ((dats m 0 c).after 5 t)
      ⊢ (match cfg0.idle 5 (cfg0.grid.coords t) with
        | true =>
          match (cfg0.win 5).flush t with
          | false => iprop(∃ d, owns (c : Thread nD τ) ((cfg0.win 5).stage (cfg0.slots t 5)) fullShare ((dats m 0 c).before 5 t d))
          | true => owns (c : Thread nD τ) ((cfg0.win 5).stage (cfg0.slots t 5)) fullShare ((dats m 0 c).after 5 t)
        | false => owns (c : Thread nD τ) ((cfg0.win 5).stage (cfg0.slots t 5)) fullShare ((dats m 0 c).after 5 t) : sProp 𝕄) := by
  by_cases hz : t.val = 0
  · obtain rfl : t = t0 := Fin.ext hz
    rw [show cfg0.idle 5 (cfg0.grid.coords t0) = false from idle_0.1]
  · simp only [before0_5_B m c t hz, after0_5]
    split
    · split
      · iintro H; iexists (fun _ => Classical.arbitrary _); iexact H
      · exact .rfl
    · exact .rfl

/-- The scales in their buffer are what the pipeline expects back: what the body stored, or what it found. -/
theorem leaves_6 (c : Dev nD) (t : Fin cfg0.N) :
    owns (c : Thread nD τ) (ms0_6 t) fullShare ((dats m 0 c).after 6 t)
      ⊢ (match cfg0.idle 6 (cfg0.grid.coords t) with
        | true =>
          match (cfg0.win 6).flush t with
          | false => iprop(∃ d, owns (c : Thread nD τ) ((cfg0.win 6).stage (cfg0.slots t 6)) fullShare ((dats m 0 c).before 6 t d))
          | true => owns (c : Thread nD τ) ((cfg0.win 6).stage (cfg0.slots t 6)) fullShare ((dats m 0 c).after 6 t)
        | false => owns (c : Thread nD τ) ((cfg0.win 6).stage (cfg0.slots t 6)) fullShare ((dats m 0 c).after 6 t) : sProp 𝕄) := by
  by_cases hz : t.val = 0
  · obtain rfl : t = t0 := Fin.ext hz
    rw [show cfg0.idle 6 (cfg0.grid.coords t0) = false from idle_0.2]
  · simp only [before0_6_B m c t hz, after0_6]
    split
    · split
      · iintro H; iexists (fun _ => Classical.arbitrary _); iexact H
      · exact .rfl
    · exact .rfl

/-- The library's body obligation, at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HΦ, Ho, H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iapply (leaves_5 m c t); iexact H5
  iapply (leaves_6 m c t); iexact H6

/-- What the launch hands the region (`ΦA`) is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val from rfl, PhiS_pos m c _ ht, PhiA0_eq]
  iintro ⟨⟨HS0, HS1, HS2⟩, Hg⟩
  isplitl [HS0 HS1 HS2]
  · isplitl [HS0]
    · iexists _; iexact HS0
    isplitl [HS1]
    · iexists _; iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: every weakly fair run terminates with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Body

end
-- ==== Proof.Body.Run.lean ====
/- The arrays the kernel's run leaves: the output's column blocks side by side, the codes and the scales whole; and the
   input blocks as parts of the arguments.
-/
module

public import proofs.«01_k».proof.Proof.Body.Frame
public import Idealize.ShloMosaic.Lib.Pipeline.Value
public import Idealize.ShloMosaic.Lib.Pointwise

@[expose] public section

set_option maxRecDepth 16384

noncomputable section

namespace Cert.KernelIdeal.Body

open Idealize.ShloMosaic Idealize.ShloMosaic.TcCoe Idealize.ShloMosaic.Tactic
open Idealize.SL.Sem
open Idealize.ShloMosaic.Pipeline (Dat Cfg Window)
open Cert.KernelIdeal.Gen

variable {F : FTy → Type} [FloatOps F]

variable (m : (ℓ : Loc nD τ sig) → Buf (Elt F) ℓ) (ρ : Dev nD → PrngReg)

/-- The point that computes column `n`. -/
def ptOf (n : Fin 4096) : Fin cfg0.N := ⟨n.val / 512, lt_of_lt_of_eq (by omega) (show cfg0.N = 8 from N_0).symm⟩

/-- The output array: column `n` is column `n % 512` of block `n / 512`. -/
def G4 (c : Dev nD) : Vec F S32x4096 .f32 := fun i => yBlk m c (ptOf (i 1)) (ix2 (i 0) ⟨(i 1).val % 512, Nat.mod_lt _ (by decide)⟩)

/-- The one number every block index but the columns' is. -/
theorem idx0 : ∀ t : Fin cfg0.N, win0_0.index t (0 : Fin 2) = 0 ∧ win0_0.index t (1 : Fin 2) = 0 :=
  (by decide +kernel : ∀ t : Fin grid0.N, _)
@[inherit_doc idx0] theorem idx1 : ∀ t : Fin cfg0.N, win0_1.index t (0 : Fin 2) = 0 ∧ win0_1.index t (1 : Fin 2) = t.val :=
  (by decide +kernel : ∀ t : Fin grid0.N, _)
@[inherit_doc idx0] theorem idx2 : ∀ t : Fin cfg0.N, win0_2.index t (0 : Fin 2) = 0 ∧ win0_2.index t (1 : Fin 2) = t.val :=
  (by decide +kernel : ∀ t : Fin grid0.N, _)
@[inherit_doc idx0] theorem idx3 : ∀ t : Fin cfg0.N, win0_3.index t (0 : Fin 2) = 0 ∧ win0_3.index t (1 : Fin 2) = t.val :=
  (by decide +kernel : ∀ t : Fin grid0.N, _)
@[inherit_doc idx0] theorem idx4 : ∀ t : Fin cfg0.N, win0_4.index t (0 : Fin 2) = 0 ∧ win0_4.index t (1 : Fin 2) = t.val :=
  (by decide +kernel : ∀ t : Fin grid0.N, _)
@[inherit_doc idx0] theorem idx5 : ∀ t : Fin cfg0.N, win0_5.index t (0 : Fin 2) = 0 ∧ win0_5.index t (1 : Fin 2) = 0 :=
  (by decide +kernel : ∀ t : Fin grid0.N, _)
@[inherit_doc idx0] theorem idx6 : ∀ t : Fin cfg0.N, win0_6.index t (0 : Fin 2) = 0 ∧ win0_6.index t (1 : Fin 2) = 0 :=
  (by decide +kernel : ∀ t : Fin grid0.N, _)

/-- Every point writes its column block back. -/
theorem flush4 : ∀ t : Fin cfg0.N, (cfg0.win 4).flush t = true :=
  (by decide +kernel : ∀ t : Fin grid0.N, win0_4.flush t = true)

/-- The last point. -/
abbrev t7 : Fin cfg0.N := ⟨7, lt_of_lt_of_eq (by decide) (show cfg0.N = 8 from N_0).symm⟩

/-- The codes and the scales are written back at the last point. -/
theorem flush56 : (cfg0.win 5).flush t7 = true ∧ (cfg0.win 6).flush t7 = true := by decide +kernel

/-- What point `t` writes back to the output array is block `t` of `G4`. -/
theorem flushed4_eq (c : Dev nD) (t : Fin cfg0.N) :
    (dats m 0 c).flushed 4 t = ((cfg0.win 4).blk t).view.read (Elt F) (G4 m c) := by
  show (cfg0.win 4).cut (grid0.coords t) ((dats m 0 c).after 4 t) = _
  rw [after0_4]
  obtain ⟨e0, e1⟩ := idx4 t
  funext y
  have hy0 : (y 0).val < 32 := (y 0).isLt
  have hy1 : (y 1).val < 512 := (y 1).isLt
  have hb0 : (((cfg0.win 4).blk t).view.emb y 0).val = win0_4.index t (0 : Fin 2) * 32 + 1 * (y 0).val := rfl
  have hb1 : (((cfg0.win 4).blk t).view.emb y 1).val = win0_4.index t (1 : Fin 2) * 512 + 1 * (y 1).val := rfl
  show yBlk m c t ((cfg0.win 4).xinj (grid0.coords t) y) = G4 m c (((cfg0.win 4).blk t).view.emb y)
  unfold G4
  have hp : ptOf (((cfg0.win 4).blk t).view.emb y 1) = t := by
    apply Fin.ext
    show (((cfg0.win 4).blk t).view.emb y 1).val / 512 = t.val
    rw [hb1, e1]; omega
  rw [hp]
  congr 1
  funext a; apply Fin.ext
  match a with
  | ⟨0, _⟩ => show (y 0).val = (((cfg0.win 4).blk t).view.emb y 0).val; rw [hb0]; omega
  | ⟨1, _⟩ => show (y 1).val = (((cfg0.win 4).blk t).view.emb y 1).val % 512; rw [hb1]; omega

/-- Every index of the output array lies in a point's block. -/
theorem covered4 (i : S32x4096.Idx) : ∃ t : Fin cfg0.N, (cfg0.win 4).flush t = true ∧ i ∈ ((cfg0.win 4).blk t).view.set := by
  have hi0 : (i 0).val < 32 := (i 0).isLt
  have hi1 : (i 1).val < 4096 := (i 1).isLt
  refine ⟨ptOf (i 1), flush4 _, ?_⟩
  obtain ⟨e0, e1⟩ := idx4 (ptOf (i 1))
  have e1' : win0_4.index (ptOf (i 1)) (1 : Fin 2) = (i 1).val / 512 := e1
  show i ∈ ((View.whole main_v2_0).slice (win0_4.rect (ptOf (i 1)))).set
  rw [View.set_slice_whole, Rect.mem_set_unit]
  intro a
  match a with
  | ⟨0, _⟩ => show win0_4.index (ptOf (i 1)) (0 : Fin 2) * 32 ≤ (i 0).val ∧ (i 0).val < win0_4.index (ptOf (i 1)) (0 : Fin 2) * 32 + 32; omega
  | ⟨1, _⟩ => show win0_4.index (ptOf (i 1)) (1 : Fin 2) * 512 ≤ (i 1).val ∧ (i 1).val < win0_4.index (ptOf (i 1)) (1 : Fin 2) * 512 + 512; omega

/-- The output array after the run. -/
theorem final4 (c : Dev nD) : (dats m 0 c).arrAt 4 cfg0.N = G4 m c :=
  (dats m 0 c).arrAt_eq_of_cover 4 _ (fun t _ => flushed4_eq m c t) covered4

/-- An index of the codes' block is the same index of their array. -/
theorem emb5 (t : Fin cfg0.N) (j : S32x4096.Idx) : ((cfg0.win 5).blk t).view.emb j = j := by
  obtain ⟨e0, e1⟩ := idx5 t
  funext a; apply Fin.ext
  match a with
  | ⟨0, _⟩ => show win0_5.index t (0 : Fin 2) * 32 + 1 * (j 0).val = (j 0).val; omega
  | ⟨1, _⟩ => show win0_5.index t (1 : Fin 2) * 4096 + 1 * (j 1).val = (j 1).val; omega

/-- The codes after the run. -/
theorem final5 (c : Dev nD) : (dats m 0 c).arrAt 5 cfg0.N = codesOf (xBlk m c) :=
  (dats m 0 c).arrAt_eq_of_cover 5 (codesOf (xBlk m c)) (fun t _ => by
    show (cfg0.win 5).cut (grid0.coords t) ((dats m 0 c).after 5 t) = _
    rw [after0_5]
    funext j
    show codesOf (xBlk m c) j = codesOf (xBlk m c) (((cfg0.win 5).blk t).view.emb j)
    rw [emb5])
    (fun i => ⟨t7, flush56.1, by have h := ((cfg0.win 5).blk t7).view.emb_mem_set i; rwa [emb5] at h⟩)

/-- An index of the scales' block is the same index of their array. -/
theorem emb6 (t : Fin cfg0.N) (j : S32x128.Idx) : ((cfg0.win 6).blk t).view.emb j = j := by
  obtain ⟨e0, e1⟩ := idx6 t
  funext a; apply Fin.ext
  match a with
  | ⟨0, _⟩ => show win0_6.index t (0 : Fin 2) * 32 + 1 * (j 0).val = (j 0).val; omega
  | ⟨1, _⟩ => show win0_6.index t (1 : Fin 2) * 128 + 1 * (j 1).val = (j 1).val; omega

/-- The scales after the run. -/
theorem final6 (c : Dev nD) : (dats m 0 c).arrAt 6 cfg0.N = scalesOf (xBlk m c) :=
  (dats m 0 c).arrAt_eq_of_cover 6 (scalesOf (xBlk m c)) (fun t _ => by
    show (cfg0.win 6).cut (grid0.coords t) ((dats m 0 c).after 6 t) = _
    rw [after0_6]
    funext j
    show scalesOf (xBlk m c) j = scalesOf (xBlk m c) (((cfg0.win 6).blk t).view.emb j)
    rw [emb6])
    (fun i => ⟨t7, flush56.2, by have h := ((cfg0.win 6).blk t7).view.emb_mem_set i; rwa [emb6] at h⟩)

/-- The run: every result's array named, the arguments unchanged. -/
theorem run : θ_run defs (onTc (τ := τ) (main (F := F))) ⟨m, fun _ => 0, ρ⟩ fun r => ∀ c : Dev nD,
      r.2.mem ((c : Thread nD τ).loc main_v2_0) = G4 m c
      ∧ r.2.mem ((c : Thread nD τ).loc main_v2_1) = codesOf (xBlk m c)
      ∧ r.2.mem ((c : Thread nD τ).loc main_v2_2) = scalesOf (xBlk m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final4 m c), ((h c).1 5).trans (final5 m c), ((h c).1 6).trans (final6 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

/-! ## The input blocks, read off the arguments -/

/-- The activations as the region finds them: the argument with its unit axis dropped. -/
theorem V_main_v0 (c : Dev nD) : V m c main_v0 = shapeCast S32x4096 (m ((c : Thread nD τ).loc main_arg0)) shapeCasts_S32x1x4096_S32x4096 := by
  unfold_abbrev_sides
  after_results
  rfl

/-- The bias as the region finds it: the argument as one row. -/
theorem V_main_v1 (c : Dev nD) : V m c main_v1 = shapeCast S1x4096 (m ((c : Thread nD τ).loc main_arg3)) shapeCasts_S4096_S1x4096 := by
  unfold_abbrev_sides
  after_results
  rfl

/-- A unit axis dropped, read at an index. -/
theorem drop_unit (X : Vec F S32x1x4096 .f32) (i : Fin 32) (k : Fin 4096) :
    shapeCast S32x4096 X shapeCasts_S32x1x4096_S32x4096 (ix2 i k) = X (ix3 i 0 k) := by pointwise

/-- A unit axis added, read at an index. -/
theorem add_unit (X : Vec F S4096 .f32) (n : Fin 4096) :
    shapeCast S1x4096 X shapeCasts_S4096_S1x4096 (ix2 0 n) = X (ix1 n) := by pointwise

/-- The activations' block at an index. -/
theorem xBlk_apply (c : Dev nD) (i : Fin 32) (k : Fin 4096) :
    xBlk m c (ix2 i k) = m ((c : Thread nD τ).loc main_arg0) (ix3 i 0 k) := by
  obtain ⟨e0, e1⟩ := idx0 t0
  have hb : ((cfg0.win 0).blk t0).view.emb (ix2 i k : S32x4096.Idx) = (ix2 i k : S32x4096.Idx) := by
    funext a; apply Fin.ext
    match a with
    | ⟨0, _⟩ => show win0_0.index t0 (0 : Fin 2) * 32 + 1 * i.val = i.val; omega
    | ⟨1, _⟩ => show win0_0.index t0 (1 : Fin 2) * 4096 + 1 * k.val = k.val; omega
  show V m c main_v0 (((cfg0.win 0).blk t0).view.emb (ix2 i k : S32x4096.Idx)) = _
  rw [hb, V_main_v0]
  exact drop_unit _ i k

/-- The column `n` of block `t`. -/
def col (t : Fin cfg0.N) (n : Fin 512) : Fin 4096 :=
  ⟨512 * t.val + n.val, by have h : t.val < 8 := lt_of_lt_of_eq t.isLt (show cfg0.N = 8 from N_0); omega⟩

/-- The weights' block at an index. -/
theorem wBlk_apply (c : Dev nD) (t : Fin cfg0.N) (k : Fin 4096) (n : Fin 512) :
    (iblk m c 1 t : Vec F S4096x512 .fp8e4m3) (ix2 k n) = m ((c : Thread nD τ).loc main_arg1) (ix2 k (col t n)) := by
  obtain ⟨e0, e1⟩ := idx1 t
  have hb : ((cfg0.win 1).blk t).view.emb (ix2 k n : S4096x512.Idx) = (ix2 k (col t n) : S4096x4096.Idx) := by
    funext a; apply Fin.ext
    match a with
    | ⟨0, _⟩ => show win0_1.index t (0 : Fin 2) * 4096 + 1 * k.val = k.val; omega
    | ⟨1, _⟩ => show win0_1.index t (1 : Fin 2) * 512 + 1 * n.val = 512 * t.val + n.val; omega
  show V m c main_arg1 (((cfg0.win 1).blk t).view.emb (ix2 k n : S4096x512.Idx)) = _
  rw [hb, V_main_arg1]

/-- The weights' scales' block at an index. -/
theorem sBlk_apply (c : Dev nD) (t : Fin cfg0.N) (g : Fin 128) (n : Fin 512) :
    (iblk m c 2 t : Vec F S128x512 .i8) (ix2 g n) = m ((c : Thread nD τ).loc main_arg2) (ix2 g (col t n)) := by
  obtain ⟨e0, e1⟩ := idx2 t
  have hb : ((cfg0.win 2).blk t).view.emb (ix2 g n : S128x512.Idx) = (ix2 g (col t n) : S128x4096.Idx) := by
    funext a; apply Fin.ext
    match a with
    | ⟨0, _⟩ => show win0_2.index t (0 : Fin 2) * 128 + 1 * g.val = g.val; omega
    | ⟨1, _⟩ => show win0_2.index t (1 : Fin 2) * 512 + 1 * n.val = 512 * t.val + n.val; omega
  show V m c main_arg2 (((cfg0.win 2).blk t).view.emb (ix2 g n : S128x512.Idx)) = _
  rw [hb, V_main_arg2]

/-- The bias's block at an index. -/
theorem bBlk_apply (c : Dev nD) (t : Fin cfg0.N) (n : Fin 512) :
    (iblk m c 3 t : Vec F S1x512 .f32) (ix2 0 n) = m ((c : Thread nD τ).loc main_arg3) (ix1 (col t n)) := by
  obtain ⟨e0, e1⟩ := idx3 t
  have hb : ((cfg0.win 3).blk t).view.emb (ix2 0 n : S1x512.Idx) = (ix2 0 (col t n) : S1x4096.Idx) := by
    funext a; apply Fin.ext
    match a with
    | ⟨0, _⟩ => show win0_3.index t (0 : Fin 2) * 1 + 1 * 0 = 0; omega
    | ⟨1, _⟩ => show win0_3.index t (1 : Fin 2) * 512 + 1 * n.val = 512 * t.val + n.val; omega
  show V m c main_v1 (((cfg0.win 3).blk t).view.emb (ix2 0 n : S1x512.Idx)) = _
  rw [hb, V_main_v1]
  exact add_unit _ _

end Cert.KernelIdeal.Body

end
-- ==== Proof.Body.Exponent.lean ====
/- The exponents at exact arithmetic: what the ladder of comparisons computes.
-/
module

public import proofs.«01_k».proof.Proof.Body.QuantLists
public import Idealize.ShloMosaic.Lib.Pointwise

@[expose] public section

noncomputable section

namespace Cert.KernelIdeal.Body

open Idealize.ShloMosaic

/-- A single-precision word with sign 0, a normal exponent field `k` and no fraction denotes `2 ^ (k - 127)`. -/
theorem ofBits_of_fields (b : BitVec 32) (k : ℕ) (h1 : 1 ≤ k) (h2 : k ≤ 254) (hs : b.extractLsb' 31 1 = 0#1)
    (he : (b.extractLsb' 23 8).toNat = k) (hf : (b.extractLsb' 0 23).toNat = 0) :
    Ideal.ofBits .f32 b = (((2 : ℝ) ^ ((k : ℤ) - 127) : ℝ) : EReal) := by
  show Ideal.ieee 8 23 b = _
  unfold Ideal.ieee
  simp only [Nat.reduceAdd, hs, he, hf]
  rw [if_neg (by norm_num; omega), if_neg (by omega)]
  congr 1
  have h0 : ((0#1 : BitVec 1) == 1#1) = false := by decide
  rw [h0]
  norm_num
  rw [show (8388608 : ℝ) = (2 : ℝ) ^ (23 : ℤ) by norm_num, ← zpow_add₀ (by norm_num)]
  congr 1; ring

/-- The pattern with exponent field `k` has the value `k * 2 ^ 23`. -/
theorem toNat_p2 (k : ℕ) (h : k ≤ 255) : (p2 k).toNat = k * 8388608 := by
  unfold p2; rw [BitVec.toNat_ofNat]; omega

/-- The pattern with exponent field `k` and no fraction denotes `2 ^ (k - 127)`. -/
theorem ofBits_p2 (k : ℕ) (h1 : 1 ≤ k) (h2 : k ≤ 254) :
    Ideal.ofBits .f32 (p2 k) = (((2 : ℝ) ^ ((k : ℤ) - 127) : ℝ) : EReal) := by
  have h := toNat_p2 k (by omega)
  generalize p2 k = b at h
  apply ofBits_of_fields b k h1 h2
  · apply BitVec.eq_of_toNat_eq
    rw [BitVec.extractLsb'_toNat, Nat.shiftRight_eq_div_pow, h]
    simp only [BitVec.toNat_ofNat]
    omega
  · rw [BitVec.extractLsb'_toNat, Nat.shiftRight_eq_div_pow, h]
    omega
  · rw [BitVec.extractLsb'_toNat, Nat.shiftRight_eq_div_pow, h]
    omega

/-- A real with its binade: `2 ^ (L - 1) ≤ r < 2 ^ L`. -/
def Binade (r : ℝ) (L : ℤ) : Prop := (2 : ℝ) ^ (L - 1) ≤ r ∧ r < (2 : ℝ) ^ L

/-- Scaling by `2 ^ k` shifts the binade. -/
theorem Binade.scale {r : ℝ} {L : ℤ} (h : Binade r L) (k : ℤ) : Binade (r * (2 : ℝ) ^ k) (L + k) := by
  have hk : (0 : ℝ) < (2 : ℝ) ^ k := by positivity
  refine ⟨?_, ?_⟩
  · rw [show L + k - 1 = (L - 1) + k by ring, zpow_add₀ (by norm_num)]
    exact mul_le_mul_of_nonneg_right h.1 hk.le
  · rw [zpow_add₀ (by norm_num)]
    exact mul_lt_mul_of_pos_right h.2 hk

/-- A power of two is at most the real iff it is at most the binade's. -/
theorem Binade.le_iff {r : ℝ} {L : ℤ} (h : Binade r L) (k : ℤ) : (2 : ℝ) ^ k ≤ r ↔ k < L := by
  constructor
  · intro hk
    exact (zpow_lt_zpow_iff_right₀ (by norm_num : (1 : ℝ) < 2)).1 (lt_of_le_of_lt hk h.2)
  · intro hk
    exact le_trans ((zpow_le_zpow_iff_right₀ (by norm_num : (1 : ℝ) < 2)).2 (by omega)) h.1

/-- One above the floor of the logarithm to base two. -/
def lg (r : ℝ) : ℤ := ⌊Real.log r / Real.log 2⌋ + 1

/-- Every positive real has its binade, one above its logarithm's floor. -/
theorem binade_of_pos {r : ℝ} (h : 0 < r) : Binade r (lg r) := by
  have h2 : 0 < Real.log 2 := Real.log_pos (by norm_num)
  refine ⟨?_, ?_⟩
  · rw [← Real.log_le_log_iff (by positivity) h, Real.log_zpow, ← le_div_iff₀ h2]
    have := Int.floor_le (Real.log r / Real.log 2)
    unfold lg; push_cast; linarith
  · rw [← Real.log_lt_log_iff h (by positivity), Real.log_zpow, ← div_lt_iff₀ h2]
    have := Int.lt_floor_add_one (Real.log r / Real.log 2)
    unfold lg; push_cast; linarith

/-- A choice by a comparison from below. -/
theorem select_oge {α : Type} (a b : EReal) (x y : α) :
    Scalar.select (FloatOps.cmpf (F := Ideal) (φ := .f32) .oge a b) x y = if b ≤ a then x else y := by
  rw [Ideal.cmpf_def]
  by_cases h : b ≤ a <;> simp [Ideal.cmp, Scalar.select, h]

/-- A choice by a strict comparison. -/
theorem select_olt {α : Type} (a b : EReal) (x y : α) :
    Scalar.select (FloatOps.cmpf (F := Ideal) (φ := .f32) .olt a b) x y = if a < b then x else y := by
  rw [Ideal.cmpf_def]
  by_cases h : a < b <;> simp [Ideal.cmp, Scalar.select, h]

/-- A choice by an equality. -/
theorem select_oeq {α : Type} (a b : EReal) (x y : α) :
    Scalar.select (FloatOps.cmpf (F := Ideal) (φ := .f32) .oeq a b) x y = if a = b then x else y := by
  rw [Ideal.cmpf_def]
  by_cases h : a = b <;> simp [Ideal.cmp, Scalar.select, h]

section
variable {s : Shape}

/-- The ladder's state at an index: a real in binade `L` and the exponent `e` counted so far. -/
def At (p : FVec Ideal s .f32 × IVec s 32) (y : s.Idx) (L e : ℤ) : Prop :=
  (∃ r : ℝ, Binade r L ∧ p.1 y = ((r : ℝ) : EReal)) ∧ p.2 y = BitVec.ofInt 32 e

/-- A constant's word is read by the interpretation. -/
theorem scalar_ofBits (b : BitVec 32) : (Scalar.ofBits .f32 b : Ideal .f32) = Ideal.ofBits .f32 b := rfl

/-- A choice of a scaled value by a comparison from below, at an index. -/
theorem up_fst (v : FVec Ideal s .f32) (y : s.Idx) (a b : Ideal .f32) :
    select (cmpf .oge v (broadcast s a)) (mulf v (broadcast s b)) v y = if (a : EReal) ≤ v y then ((v y : EReal) * b : EReal) else v y :=
  select_oge _ _ _ _

/-- A choice of a raised exponent by a comparison from below, at an index. -/
theorem up_snd (v : FVec Ideal s .f32) (e : IVec s 32) (y : s.Idx) (a : Ideal .f32) (b : BitVec 32) :
    select (cmpf .oge v (broadcast s a)) (addi e (broadcast s b)) e y = if (a : EReal) ≤ v y then e y + b else e y :=
  select_oge _ _ _ _

/-- A choice of a scaled value by a strict comparison, at an index. -/
theorem down_fst (v : FVec Ideal s .f32) (y : s.Idx) (a b : Ideal .f32) :
    select (cmpf .olt v (broadcast s a)) (mulf v (broadcast s b)) v y = if (v y : EReal) < a then ((v y : EReal) * b : EReal) else v y :=
  select_olt _ _ _ _

/-- A choice of a lowered exponent by a strict comparison, at an index. -/
theorem down_snd (v : FVec Ideal s .f32) (e : IVec s 32) (y : s.Idx) (a : Ideal .f32) (b : BitVec 32) :
    select (cmpf .olt v (broadcast s a)) (subi e (broadcast s b)) e y = if (v y : EReal) < a then e y - b else e y :=
  select_olt _ _ _ _

/-- A rung up's value at an index. -/
theorem upV_fst (p : FVec Ideal s .f32 × IVec s 32) (y : s.Idx) (n : ℕ) :
    (upV n p).1 y = if Ideal.ofBits .f32 (p2 (126 + n)) ≤ p.1 y then p.1 y * Ideal.ofBits .f32 (p2 (127 - n)) else p.1 y := by
  unfold upV; rw [← scalar_ofBits, ← scalar_ofBits, ← up_fst]

/-- A rung up's exponent at an index. -/
theorem upV_snd (p : FVec Ideal s .f32 × IVec s 32) (y : s.Idx) (n : ℕ) :
    (upV n p).2 y = if Ideal.ofBits .f32 (p2 (126 + n)) ≤ p.1 y then p.2 y + BitVec.ofNat 32 n else p.2 y := by
  unfold upV; rw [← scalar_ofBits, ← up_snd]

/-- A rung down's value at an index. -/
theorem downV_fst (p : FVec Ideal s .f32 × IVec s 32) (y : s.Idx) (n : ℕ) :
    (downV n p).1 y = if p.1 y < Ideal.ofBits .f32 (p2 (127 - n)) then p.1 y * Ideal.ofBits .f32 (p2 (127 + n)) else p.1 y := by
  unfold downV; rw [← scalar_ofBits, ← scalar_ofBits, ← down_fst]

/-- A rung down's exponent at an index. -/
theorem downV_snd (p : FVec Ideal s .f32 × IVec s 32) (y : s.Idx) (n : ℕ) :
    (downV n p).2 y = if p.1 y < Ideal.ofBits .f32 (p2 (127 - n)) then p.2 y - BitVec.ofNat 32 n else p.2 y := by
  unfold downV; rw [← scalar_ofBits, ← down_snd]

/-- A rung up moves `n` from the binade to the exponent when the binade is at least `n`. -/
theorem At.up {p : FVec Ideal s .f32 × IVec s 32} {y : s.Idx} {L e : ℤ} (h : At p y L e) (n : ℕ) (h1 : 1 ≤ n) (h2 : n ≤ 100) :
    ∃ L' e', At (upV n p) y L' e' ∧ ((n : ℤ) ≤ L ∧ L' = L - n ∧ e' = e + n ∨ L < n ∧ L' = L ∧ e' = e) := by
  obtain ⟨⟨r, hr, hp⟩, he⟩ := h
  have hc : Ideal.ofBits .f32 (p2 (126 + n)) ≤ p.1 y ↔ (n : ℤ) ≤ L := by
    rw [ofBits_p2 _ (by omega) (by omega), hp, EReal.coe_le_coe_iff, hr.le_iff]; push_cast; omega
  by_cases hL : (n : ℤ) ≤ L
  · refine ⟨L - n, e + n, ⟨⟨r * (2 : ℝ) ^ (-(n : ℤ)), ?_, ?_⟩, ?_⟩, Or.inl ⟨hL, rfl, rfl⟩⟩
    · rw [sub_eq_add_neg]; exact hr.scale _
    · rw [upV_fst, if_pos (hc.2 hL), ofBits_p2 _ (by omega) (by omega), hp, ← EReal.coe_mul,
        show (((127 - n : ℕ) : ℤ) - 127) = -(n : ℤ) by omega]
    · rw [upV_snd, if_pos (hc.2 hL), he, BitVec.ofInt_add, BitVec.ofInt_natCast]
  · refine ⟨L, e, ⟨⟨r, hr, ?_⟩, ?_⟩, Or.inr ⟨by omega, rfl, rfl⟩⟩
    · rw [upV_fst, if_neg (fun h => hL (hc.1 h)), hp]
    · rw [upV_snd, if_neg (fun h => hL (hc.1 h)), he]

/-- A rung down moves `n` from the exponent to the binade when the binade is at most `-n`. -/
theorem At.down {p : FVec Ideal s .f32 × IVec s 32} {y : s.Idx} {L e : ℤ} (h : At p y L e) (n : ℕ) (h1 : 1 ≤ n) (h2 : n ≤ 100) :
    ∃ L' e', At (downV n p) y L' e' ∧ (L ≤ -n ∧ L' = L + n ∧ e' = e - n ∨ -n < L ∧ L' = L ∧ e' = e) := by
  obtain ⟨⟨r, hr, hp⟩, he⟩ := h
  have hc : p.1 y < Ideal.ofBits .f32 (p2 (127 - n)) ↔ L ≤ -n := by
    rw [ofBits_p2 _ (by omega) (by omega), hp, EReal.coe_lt_coe_iff, ← not_le, hr.le_iff]; push_cast; omega
  by_cases hL : L ≤ -n
  · refine ⟨L + n, e - n, ⟨⟨r * (2 : ℝ) ^ (n : ℤ), ?_, ?_⟩, ?_⟩, Or.inl ⟨hL, rfl, rfl⟩⟩
    · exact hr.scale _
    · rw [downV_fst, if_pos (hc.2 hL), ofBits_p2 _ (by omega) (by omega), hp, ← EReal.coe_mul,
        show (((127 + n : ℕ) : ℤ) - 127) = (n : ℤ) by omega]
    · rw [downV_snd, if_pos (hc.2 hL), he, sub_eq_add_neg e, BitVec.ofInt_add, BitVec.ofInt_neg, BitVec.ofInt_natCast, BitVec.sub_eq_add_neg]
  · refine ⟨L, e, ⟨⟨r, hr, ?_⟩, ?_⟩, Or.inr ⟨by omega, rfl, rfl⟩⟩
    · rw [downV_fst, if_neg (fun h => hL (hc.1 h)), hp]
    · rw [downV_snd, if_neg (fun h => hL (hc.1 h)), he]

/-- The rungs up, from binade `K`: a binade of 1 to 128 goes to the exponent whole, a higher one gives it 128. -/
theorem At.ups {v : FVec Ideal s .f32} {y : s.Idx} {K : ℤ} (h : At (v, broadcast s 0#32) y K 0) :
    ∃ L e, At (upV 1 (upV 1 (upV 2 (upV 4 (upV 8 (upV 16 (upV 32 (upV 64 (v, broadcast s 0#32))))))))) y L e
      ∧ (K ≤ 0 ∧ L = K ∧ e = 0 ∨ 0 < K ∧ K ≤ 128 ∧ L = 0 ∧ e = K ∨ 128 < K ∧ 0 < L ∧ e = 128) := by
  obtain ⟨L1, e1, h1, q1⟩ := h.up 64 (by norm_num) (by norm_num)
  obtain ⟨L2, e2, h2, q2⟩ := h1.up 32 (by norm_num) (by norm_num)
  have r2 : K ≤ 0 ∧ L2 = K ∧ e2 = 0 ∨ 0 < K ∧ L2 + e2 = K ∧ 0 ≤ L2 ∧ L2 ≤ 32 ∧ e2 ≤ 96 ∨ 0 < K ∧ L2 + e2 = K ∧ 32 < L2 ∧ e2 = 96 := by omega
  obtain ⟨L3, e3, h3, q3⟩ := h2.up 16 (by norm_num) (by norm_num)
  obtain ⟨L4, e4, h4, q4⟩ := h3.up 8 (by norm_num) (by norm_num)
  have r4 : K ≤ 0 ∧ L4 = K ∧ e4 = 0 ∨ 0 < K ∧ L4 + e4 = K ∧ 0 ≤ L4 ∧ L4 ≤ 8 ∧ e4 ≤ 120 ∨ 0 < K ∧ L4 + e4 = K ∧ 8 < L4 ∧ e4 = 120 := by
    clear q1 q2; omega
  obtain ⟨L5, e5, h5, q5⟩ := h4.up 4 (by norm_num) (by norm_num)
  obtain ⟨L6, e6, h6, q6⟩ := h5.up 2 (by norm_num) (by norm_num)
  have r6 : K ≤ 0 ∧ L6 = K ∧ e6 = 0 ∨ 0 < K ∧ L6 + e6 = K ∧ 0 ≤ L6 ∧ L6 ≤ 2 ∧ e6 ≤ 126 ∨ 0 < K ∧ L6 + e6 = K ∧ 2 < L6 ∧ e6 = 126 := by
    clear q1 q2 q3 q4 r2; omega
  obtain ⟨L7, e7, h7, q7⟩ := h6.up 1 (by norm_num) (by norm_num)
  obtain ⟨L8, e8, h8, q8⟩ := h7.up 1 (by norm_num) (by norm_num)
  refine ⟨L8, e8, h8, ?_⟩
  clear q1 q2 q3 q4 q5 q6 r2 r4; omega

/-- The rungs down, from binade `K ≤ 0`: a binade down to -148 goes to the exponent whole, a lower one gives it -148. A
    positive one stays. -/
theorem At.downs {p : FVec Ideal s .f32 × IVec s 32} {y : s.Idx} {K e : ℤ} (h : At p y K e) :
    ∃ L e', At (downV 1 (downV 1 (downV 2 (downV 5 (downV 9 (downV 19 (downV 37 (downV 74 p)))))))) y L e'
      ∧ (0 ≤ K ∧ e' = e ∨ K < 0 ∧ -148 ≤ K ∧ e' = e + K ∨ K < -148 ∧ e' = e - 148) := by
  obtain ⟨L1, e1, h1, q1⟩ := h.down 74 (by norm_num) (by norm_num)
  obtain ⟨L2, e2, h2, q2⟩ := h1.down 37 (by norm_num) (by norm_num)
  have r2 : 0 ≤ K ∧ L2 = K ∧ e2 = e ∨ K < 0 ∧ L2 + e2 = K + e ∧ -37 ≤ L2 ∧ L2 ≤ 0 ∧ e - 111 ≤ e2 ∨ K < 0 ∧ L2 + e2 = K + e ∧ L2 < -37 ∧ e2 = e - 111 := by omega
  obtain ⟨L3, e3, h3, q3⟩ := h2.down 19 (by norm_num) (by norm_num)
  obtain ⟨L4, e4, h4, q4⟩ := h3.down 9 (by norm_num) (by norm_num)
  have r4 : 0 ≤ K ∧ L4 = K ∧ e4 = e ∨ K < 0 ∧ L4 + e4 = K + e ∧ -9 ≤ L4 ∧ L4 ≤ 0 ∧ e - 139 ≤ e4 ∨ K < 0 ∧ L4 + e4 = K + e ∧ L4 < -9 ∧ e4 = e - 139 := by
    clear q1 q2; omega
  obtain ⟨L5, e5, h5, q5⟩ := h4.down 5 (by norm_num) (by norm_num)
  obtain ⟨L6, e6, h6, q6⟩ := h5.down 2 (by norm_num) (by norm_num)
  have r6 : 0 ≤ K ∧ L6 = K ∧ e6 = e ∨ K < 0 ∧ L6 + e6 = K + e ∧ -2 ≤ L6 ∧ L6 ≤ 0 ∧ e - 146 ≤ e6 ∨ K < 0 ∧ L6 + e6 = K + e ∧ L6 < -2 ∧ e6 = e - 146 := by
    clear q1 q2 q3 q4 r2; omega
  obtain ⟨L7, e7, h7, q7⟩ := h6.down 1 (by norm_num) (by norm_num)
  obtain ⟨L8, e8, h8, q8⟩ := h7.down 1 (by norm_num) (by norm_num)
  refine ⟨L8, e8, h8, ?_⟩
  clear q1 q2 q3 q4 q5 q6 r2 r4; omega

/-- The ladder at a positive real: one above its logarithm's floor, kept between -148 and 128. -/
theorem ladderV_apply (v : FVec Ideal s .f32) (y : s.Idx) (r : ℝ) (h0 : 0 < r) (hv : v y = ((r : ℝ) : EReal)) :
    (ladderV v).2 y = BitVec.ofInt 32 (min 128 (max (-148) (lg r))) := by
  have hs : At (v, broadcast s 0#32) y (lg r) 0 := ⟨⟨r, binade_of_pos h0, hv⟩, rfl⟩
  obtain ⟨L, e, h1, q1⟩ := hs.ups
  obtain ⟨L', e', h2, q2⟩ := h1.downs
  have he : e' = min 128 (max (-148) (lg r)) := by omega
  rw [← he, ladderV]
  exact h2.2

end

end Cert.KernelIdeal.Body

end
-- ==== Proof.Body.Power.lean ====
/- The powers of two at exact arithmetic: what the bits of a power of two denote.
-/
module

public import proofs.«01_k».proof.Proof.Body.Exponent
public import Idealize.ShloMosaic.Lib.Pointwise

@[expose] public section

noncomputable section

namespace Cert.KernelIdeal.Body

open Idealize.ShloMosaic

/-- A power of two that overflows to infinity from `2 ^ 128` on. -/
def pw (z : ℤ) : EReal := if 127 < z then ⊤ else (((2 : ℝ) ^ z : ℝ) : EReal)

/-- The word `pow2V` reads as a float, for an exponent. -/
def powBits (n : BitVec 32) : BitVec 32 :=
  Scalar.select (IntOp.cmpi .slt n 4294967170#32) (IntOp.shli .vector (1#32) (IntOp.maxsi (IntOp.addi n 149#32) 0#32))
    (IntOp.shli .vector (IntOp.addi (IntOp.minsi n 128#32) 127#32) 23#32)

/-- A small integer is its word's value. -/
theorem toInt_ofInt32 (z : ℤ) (h1 : -1000 ≤ z) (h2 : z ≤ 1000) : (BitVec.ofInt 32 z).toInt = z := by
  rw [BitVec.toInt_ofInt, Int.bmod_def]; omega

/-- From -126 on the word is the biased exponent, kept at 255, shifted to its field. -/
theorem powBits_of_ge (z : ℤ) (h1 : -126 ≤ z) (h2 : z ≤ 148) :
    powBits (BitVec.ofInt 32 z) = (BitVec.ofInt 32 (min z 128) + 127#32) <<< (23 : ℕ) := by
  have hs : (BitVec.ofInt 32 z).slt 4294967170#32 = false := by
    rw [BitVec.slt_eq_decide, toInt_ofInt32 z (by omega) (by omega), show (4294967170#32 : BitVec 32).toInt = -126 by decide]
    exact decide_eq_false (by omega)
  have hm : IntOp.minsi (BitVec.ofInt 32 z) 128#32 = BitVec.ofInt 32 (min z 128) := by
    show (if (BitVec.ofInt 32 z).slt 128#32 then BitVec.ofInt 32 z else 128#32) = _
    rw [BitVec.slt_eq_decide, toInt_ofInt32 z (by omega) (by omega), show (128#32 : BitVec 32).toInt = 128 by decide]
    by_cases h : z < 128
    · rw [decide_eq_true h, if_pos rfl, min_eq_left h.le]
    · rw [decide_eq_false h, if_neg (by decide), min_eq_right (by omega)]; rfl
  have hsh : ∀ x : BitVec 32, IntOp.shli .vector x 23#32 = x <<< (23 : ℕ) := fun x => rfl
  unfold powBits
  rw [hm, hsh]
  have hc : IntOp.cmpi .slt (BitVec.ofInt 32 z) 4294967170#32 = 0#1 := by
    show BitVec.ofBool ((BitVec.ofInt 32 z).slt 4294967170#32) = _
    rw [hs]; rfl
  rw [hc]
  rfl

/-- That shifted word has the exponent field and no fraction. -/
theorem shifted_eq (k : ℕ) (h : k ≤ 255) : (BitVec.ofInt 32 ((k : ℤ) - 127) + 127#32) <<< (23 : ℕ) = p2 k := by
  have : BitVec.ofInt 32 ((k : ℤ) - 127) + 127#32 = BitVec.ofNat 32 k := by
    rw [show (127#32 : BitVec 32) = BitVec.ofInt 32 127 from rfl, ← BitVec.ofInt_add, sub_add_cancel, BitVec.ofInt_natCast]
  rw [this]
  apply BitVec.eq_of_toNat_eq
  rw [BitVec.toNat_shiftLeft, BitVec.toNat_ofNat, Nat.shiftLeft_eq, p2, BitVec.toNat_ofNat]
  omega

/-- Infinity's word. -/
theorem ofBits_inf : Ideal.ofBits .f32 (p2 255) = ⊤ := by
  rw [show p2 255 = 0x7F800000#32 from rfl]
  simp [Ideal.ofBits, Ideal.ieee]

/-- The subnormal's word for -127. -/
theorem ofBits_sub1 : Ideal.ofBits .f32 0x00400000#32 = (((2 : ℝ) ^ (-127 : ℤ) : ℝ) : EReal) := by
  simp [Ideal.ofBits, Ideal.ieee, -EReal.coe_mul]
  norm_num

/-- The subnormal's word for -128. -/
theorem ofBits_sub2 : Ideal.ofBits .f32 0x00200000#32 = (((2 : ℝ) ^ (-128 : ℤ) : ℝ) : EReal) := by
  simp [Ideal.ofBits, Ideal.ieee, -EReal.coe_mul]
  norm_num

/-- `pow2V` reads that word. -/
theorem pow2V_eq {s : Shape} (n : IVec s 32) (y : s.Idx) : pow2V (F := Ideal) n y = Ideal.ofBits .f32 (powBits (n y)) := rfl

/-- The bits denote the power of two. -/
theorem pow2V_apply {s : Shape} (n : IVec s 32) (y : s.Idx) (z : ℤ) (h : n y = BitVec.ofInt 32 z) (h1 : -128 ≤ z) (h2 : z ≤ 148) :
    pow2V (F := Ideal) n y = pw z := by
  rw [pow2V_eq, h]
  rcases lt_or_ge z (-126) with hz | hz
  · have : z = -128 ∨ z = -127 := by omega
    rcases this with rfl | rfl
    · rw [show powBits (BitVec.ofInt 32 (-128)) = 0x00200000#32 by decide, pw, if_neg (by norm_num), ofBits_sub2]
    · rw [show powBits (BitVec.ofInt 32 (-127)) = 0x00400000#32 by decide, pw, if_neg (by norm_num), ofBits_sub1]
  · rw [powBits_of_ge z hz h2]
    have hk := shifted_eq (min z 128 + 127).toNat (by omega)
    rw [show (((min z 128 + 127).toNat : ℕ) : ℤ) - 127 = min z 128 by omega] at hk
    rw [hk]
    rcases lt_or_ge 127 z with h3 | h3
    · rw [pw, if_pos h3, show (min z 128 + 127).toNat = 255 by omega, ofBits_inf]
    · rw [ofBits_p2 _ (by omega) (by omega), pw, if_neg (by omega), show (((min z 128 + 127).toNat : ℕ) : ℤ) - 127 = z by omega]

end Cert.KernelIdeal.Body

end
-- ==== Proof.Body.Scalars.lean ====
/- The quantiser's scalars at exact arithmetic: the exponent of a block, the power of two a scale's byte stands for, and that
   the kernel's ladder and bits give the same as logarithm and exponential. -/
module

public import proofs.«01_k».proof.Proof.Body.Power

@[expose] public section

noncomputable section

namespace Cert.KernelIdeal.Body

open Idealize.ShloMosaic

/-- The factor 1/448 as both programs print it. -/
def cst : EReal := Ideal.ofBits .f32 0x3B124925#32

/-- The factor is a positive real. -/
theorem cst_pos : ∃ c : ℝ, 0 < c ∧ cst = (c : EReal) := by
  refine ⟨(8388608 + 1198373) * (2 : ℝ) ^ (-32 : ℤ), by positivity, ?_⟩
  simp [cst, Ideal.ofBits, Ideal.ieee, -EReal.coe_mul]
  norm_num

/-- A magnitude times the factor is zero, infinite, or a positive real. -/
theorem scaled_cases (a : EReal) (h : 0 ≤ a) : a * cst = 0 ∨ a * cst = ⊤ ∨ ∃ r : ℝ, 0 < r ∧ a * cst = (r : EReal) := by
  obtain ⟨c, hc, e⟩ := cst_pos
  rw [e]
  induction a using EReal.rec with
  | bot => exact absurd h (by simp)
  | top => exact Or.inr (Or.inl (EReal.top_mul_coe_of_pos hc))
  | coe x =>
    have hx : 0 ≤ x := EReal.coe_nonneg.1 h
    rcases hx.eq_or_lt with rfl | hx
    · left; simp
    · exact Or.inr (Or.inr ⟨x * c, mul_pos hx hc, (EReal.coe_mul x c).symm⟩)

/-- The exponent of a block whose largest magnitude is `a`: `0` where `a` scaled is zero or infinite, else one above the
    logarithm's floor, kept between -148 and 128. -/
def expoZ (a : EReal) : ℤ :=
  if a = 0 ∨ a * cst = 0 ∨ a * cst = ⊤ then 0 else min 128 (max (-148) (lg (a * cst).toReal))

/-- The exponent is at least -148. -/
theorem expoZ_ge (a : EReal) : -148 ≤ expoZ a := by
  unfold expoZ; split_ifs <;> omega

/-- The exponent is at most 128. -/
theorem expoZ_le (a : EReal) : expoZ a ≤ 128 := by
  unfold expoZ; split_ifs <;> omega

/-- Nested choices by an equality and by two equalities, with the same first choice. -/
theorem select_special {α : Type} (a v t : EReal) (x y : α) :
    Scalar.select (FloatOps.cmpf (F := Ideal) (φ := .f32) .oeq a (0 : EReal)) x
      (Scalar.select (IntOp.ori (FloatOps.cmpf (F := Ideal) (φ := .f32) .oeq v (0 : EReal)) (FloatOps.cmpf (F := Ideal) (φ := .f32) .oeq v t)) x y)
      = if a = 0 ∨ v = 0 ∨ v = t then x else y := by
  simp only [Ideal.cmpf_def]
  have ho : ∀ p q : Bool, IntOp.ori (BitVec.ofBool p) (BitVec.ofBool q) = BitVec.ofBool (p || q) := by decide
  simp only [Ideal.cmp, ho, Scalar.select]
  by_cases h1 : a = 0
  · rw [if_pos (Or.inl h1)]; simp [h1]
  · by_cases h2 : v = 0 ∨ v = t
    · rw [if_pos (Or.inr h2), if_neg (by simp [h1]), if_pos]
      rcases h2 with h2 | h2 <;> simp [h2]
    · rw [if_neg (c := a = 0 ∨ v = 0 ∨ v = t) (by tauto), if_neg (by simp [h1]), if_neg]
      rw [decide_eq_false (fun e => h2 (Or.inl e)), decide_eq_false (fun e => h2 (Or.inr e))]
      decide

/-- The word of infinity. -/
theorem ofBits_top : Ideal.ofBits .f32 0x7F800000#32 = ⊤ := by simp [Ideal.ofBits, Ideal.ieee]

/-- The word of minus infinity. -/
theorem ofBits_bot : Ideal.ofBits .f32 0xFF800000#32 = ⊥ := by simp [Ideal.ofBits, Ideal.ieee]

/-- The word of -148. -/
theorem ofBits_m148 : Ideal.ofBits .f32 0xC3140000#32 = ((-148 : ℝ) : EReal) := by
  simp [Ideal.ofBits, Ideal.ieee, -EReal.coe_mul]
  norm_num

/-- The word of 128. -/
theorem ofBits_128 : Ideal.ofBits .f32 0x43000000#32 = ((128 : ℝ) : EReal) := by
  simp [Ideal.ofBits, Ideal.ieee, -EReal.coe_mul]
  norm_num

/-- The kernel's exponent at an index. -/
theorem expoV_apply {s : Shape} (a : FVec Ideal s .f32) (y : s.Idx) (h : (0 : EReal) ≤ a y) :
    expoV a y = BitVec.ofInt 32 (expoZ (a y)) := by
  have h0 : expoV a y = Scalar.select (FloatOps.cmpf (F := Ideal) (φ := .f32) .oeq (a y) (Ideal.ofBits .f32 0x00000000#32)) 0#32
      (Scalar.select (IntOp.ori (FloatOps.cmpf (F := Ideal) (φ := .f32) .oeq ((a y : EReal) * cst : EReal) (Ideal.ofBits .f32 0x00000000#32))
          (FloatOps.cmpf (F := Ideal) (φ := .f32) .oeq ((a y : EReal) * cst : EReal) (Ideal.ofBits .f32 0x7F800000#32))) 0#32
        ((ladderV (mulf a (broadcast s (Scalar.ofBits .f32 0x3B124925#32)))).2 y)) := rfl
  rw [h0, Ideal.ofBits_zero_f32, ofBits_top, select_special]
  unfold expoZ
  by_cases hc : (a y : EReal) = 0 ∨ (a y : EReal) * cst = 0 ∨ (a y : EReal) * cst = ⊤
  · rw [if_pos hc, if_pos hc]; rfl
  · rw [if_neg hc, if_neg hc]
    rcases scaled_cases (a y) h with h1 | h1 | ⟨r, hr, e⟩
    · exact absurd (Or.inr (Or.inl h1)) hc
    · exact absurd (Or.inr (Or.inr h1)) hc
    · rw [e, EReal.toReal_coe]
      exact ladderV_apply _ y r hr e

/-- Logarithm, division by the logarithm of two, floor and one more, of a positive real. -/
theorem floor_log (r : ℝ) (h : 0 < r) :
    Ideal.liftRound Int.floor (Ideal.div (Ideal.log (r : EReal)) ((Real.log 2 : ℝ) : EReal)) + 1 = ((lg r : ℝ) : EReal) := by
  have h2 : Real.log 2 ≠ 0 := (Real.log_pos (by norm_num)).ne'
  rw [Ideal.log_coe, if_neg (not_le.2 h), Ideal.div_coe h2, ← EReal.coe_mul, Ideal.liftRound_coe, mul_one_div]
  unfold lg
  rw [Int.cast_add, Int.cast_one, EReal.coe_add, EReal.coe_one]

/-- A small integer converted to a word. -/
theorem fptosi_int (z : ℤ) (h1 : -1000 ≤ z) (h2 : z ≤ 1000) :
    FloatOps.fptosi (F := Ideal) (φ := .f32) 32 (((z : ℝ) : EReal)) = BitVec.ofInt 32 z := by
  show BitVec.ofInt 32 (Ideal.toIntClamped (-(2 ^ (32 - 1))) (2 ^ (32 - 1) - 1) ((z : ℝ) : EReal)) = _
  rw [Ideal.toIntClamped_coe]
  congr 1
  rw [Int.floor_intCast, Int.ceil_intCast, ite_self]
  omega

/-- The reference's exponent: the same choices with the logarithm in place of the ladder. -/
theorem refExpo (a : EReal) (h : 0 ≤ a) :
    Scalar.select (FloatOps.cmpf (F := Ideal) (φ := .f32) .oeq a (Ideal.ofBits .f32 0x00000000#32)) 0#32
      (Scalar.select (IntOp.ori (FloatOps.cmpf (F := Ideal) (φ := .f32) .oeq (a * cst) (Ideal.ofBits .f32 0x00000000#32))
          (FloatOps.cmpf (F := Ideal) (φ := .f32) .oeq (a * cst) (Ideal.ofBits .f32 0x7F800000#32))) 0#32
        (FloatOps.fptosi (F := Ideal) (φ := .f32) 32 (min (Ideal.ofBits .f32 0x43000000#32) (max (Ideal.ofBits .f32 0xC3140000#32)
          (Ideal.liftRound Int.floor (Ideal.div (Ideal.log (a * cst)) ((Real.log 2 : ℝ) : EReal)) + 1)))))
      = BitVec.ofInt 32 (expoZ a) := by
  rw [Ideal.ofBits_zero_f32, ofBits_top, select_special]
  unfold expoZ
  by_cases hc : a = 0 ∨ a * cst = 0 ∨ a * cst = ⊤
  · rw [if_pos hc, if_pos hc]; rfl
  · rw [if_neg hc, if_neg hc]
    rcases scaled_cases a h with h1 | h1 | ⟨r, hr, e⟩
    · exact absurd (Or.inr (Or.inl h1)) hc
    · exact absurd (Or.inr (Or.inr h1)) hc
    · rw [e, EReal.toReal_coe, floor_log r hr, ofBits_128, ofBits_m148]
      have hm : min ((128 : ℝ) : EReal) (max ((-148 : ℝ) : EReal) ((lg r : ℝ) : EReal)) = (((min 128 (max (-148) (lg r)) : ℤ) : ℝ) : EReal) := by
        rw [← EReal.coe_strictMono.monotone.map_max, ← EReal.coe_strictMono.monotone.map_min]
        push_cast; rfl
      rw [hm]
      exact fptosi_int _ (by omega) (by omega)

/-- The reference's power of two: infinity above 127, else the exponential. -/
theorem refPow (n : BitVec 32) (z : ℤ) (h : n = BitVec.ofInt 32 z) (h1 : -1000 ≤ z) (h2 : z ≤ 1000) :
    Scalar.select (IntOp.cmpi .sgt n 127#32) (Ideal.ofBits .f32 0x7F800000#32) (FloatOps.exp2 (F := Ideal) (φ := .f32) (FloatOps.sitofp (F := Ideal) .f32 n)) = pw z := by
  have ht : n.toInt = z := by rw [h]; exact toInt_ofInt32 z h1 h2
  have he : FloatOps.exp2 (F := Ideal) (φ := .f32) (FloatOps.sitofp (F := Ideal) .f32 n) = (((2 : ℝ) ^ z : ℝ) : EReal) := by
    show Ideal.exp2 (((n.toInt : ℝ) : EReal)) = _
    rw [ht, Ideal.exp2_coe]
    congr 1
    exact Real.rpow_intCast 2 z
  have hc : IntOp.cmpi .sgt n 127#32 = BitVec.ofBool (decide (127 < z)) := by
    show BitVec.ofBool ((127#32 : BitVec 32).slt n) = _
    rw [BitVec.slt_eq_decide, ht]; rfl
  rw [he, hc, ofBits_top, pw]
  by_cases hz : 127 < z
  · rw [decide_eq_true hz, if_pos hz]; rfl
  · rw [decide_eq_false hz, if_neg hz]; rfl

/-- The power of two a scale's byte stands for. -/
def scalePow (u : BitVec 8) : EReal := pw ((u.toNat : ℤ) - 127)

/-- A byte less 127, as a word. -/
theorem sub127 (u : BitVec 8) : IntOp.subi (BitVec.setWidth 32 u) 127#32 = BitVec.ofInt 32 ((u.toNat : ℤ) - 127) := by
  show BitVec.setWidth 32 u - 127#32 = _
  rw [sub_eq_add_neg (u.toNat : ℤ), BitVec.ofInt_add, BitVec.ofInt_neg, BitVec.ofInt_natCast, BitVec.sub_eq_add_neg, BitVec.ofNat_toNat]
  rfl

/-- The reference's reading of a scale's byte. -/
theorem refScale (u : BitVec 8) :
    Scalar.select (IntOp.cmpi .sgt (IntOp.subi (BitVec.setWidth 32 u) 127#32) 127#32) (Ideal.ofBits .f32 0x7F800000#32)
      (FloatOps.exp2 (F := Ideal) (φ := .f32) (FloatOps.sitofp (F := Ideal) .f32 (IntOp.subi (BitVec.setWidth 32 u) 127#32))) = scalePow u :=
  refPow _ _ (sub127 u) (by have := u.isLt; omega) (by have := u.isLt; omega)

/-- The kernel's reading of a scale's byte. -/
theorem pow2V_scale {s : Shape} (n : IVec s 32) (y : s.Idx) (u : BitVec 8) (h : n y = IntOp.subi (BitVec.setWidth 32 u) 127#32) :
    pow2V (F := Ideal) n y = scalePow u :=
  pow2V_apply n y _ (h.trans (sub127 u)) (by omega) (by have := u.isLt; omega)

/-- The low byte by a mask is the low byte by truncation. -/
theorem low_byte (x : BitVec 32) : IntOp.andi x 255#32 = BitVec.setWidth 32 (BitVec.setWidth 8 x) := by
  show x &&& 255#32 = _
  apply BitVec.eq_of_toNat_eq
  rw [BitVec.toNat_and, BitVec.toNat_setWidth, BitVec.toNat_setWidth, show (255#32 : BitVec 32).toNat = 2 ^ 8 - 1 from rfl, Nat.and_two_pow_sub_one_eq_mod]
  omega

/-- Zero less an exponent, as a word. -/
theorem neg_word (z : ℤ) : IntOp.subi 0#32 (BitVec.ofInt 32 z) = BitVec.ofInt 32 (-z) := by
  show 0#32 - BitVec.ofInt 32 z = _
  rw [BitVec.ofInt_neg, BitVec.zero_sub]

/-- The largest magnitude of a block of 32. -/
def blockMax (f : Fin 32 → EReal) : EReal := Finset.univ.fold max ⊥ fun k => max (f k) (-(f k))

/-- A largest magnitude is not negative. -/
theorem blockMax_nonneg (f : Fin 32 → EReal) : 0 ≤ blockMax f := by
  unfold blockMax
  rw [Finset.le_fold_max]
  refine Or.inr ⟨0, Finset.mem_univ _, ?_⟩
  rcases le_total 0 (f 0) with h | h
  · exact le_max_of_le_left h
  · exact le_max_of_le_right (EReal.le_neg_of_le_neg (by simpa using h))

/-! ## The quantised product, in plain terms -/

/-- Entry `k` of block `g`. -/
def blk (g : Fin 128) (k : Fin 32) : Fin 4096 := ⟨g.val * 32 + k.val, by omega⟩

/-- The exponent of block `g` of row `i`. -/
def expoAt (X : Fin 32 → Fin 4096 → EReal) (i : Fin 32) (g : Fin 128) : ℤ := expoZ (blockMax fun k => X i (blk g k))

/-- The code of an entry: scaled by its block's power of two and clipped. -/
def codeAt (X : Fin 32 → Fin 4096 → EReal) (i : Fin 32) (g : Fin 128) (k : Fin 32) : EReal :=
  min (Ideal.ofBits .f32 0x43E00000#32) (max (Ideal.ofBits .f32 0xC3E00000#32) (X i (blk g k) * pw (-(expoAt X i g))))

/-- The scale's byte of a block. -/
def scaleAt (X : Fin 32 → Fin 4096 → EReal) (i : Fin 32) (g : Fin 128) : BitVec 8 :=
  BitVec.setWidth 8 (IntOp.addi (BitVec.ofInt 32 (expoAt X i g)) 127#32)

/-- The result at row `i`, for a column of weights `w`, of weights' scales `s` and bias `b`. -/
def yAt (X : Fin 32 → Fin 4096 → EReal) (w : Fin 4096 → EReal) (s : Fin 128 → BitVec 8) (b : EReal) (i : Fin 32) : EReal :=
  (∑ g, (∑ k, codeAt X i g k * w (blk g k)) * scalePow (scaleAt X i g) * scalePow (s g)) + b

end Cert.KernelIdeal.Body

end
-- ==== Proof.Body.QuantVals.lean ====
/- The quantising branch at exact arithmetic, read at an index: its codes, its scales' bytes, the left operand it lays out
   and the scales it repeats. -/
module

public import proofs.«01_k».proof.Proof.Body.Scalars
public import proofs.«01_k».proof.Proof.Body.Spec

@[expose] public section

set_option maxRecDepth 16384

noncomputable section

namespace Cert.KernelIdeal.Body

open Idealize.ShloMosaic Cert.KernelIdeal.Gen

/-- The activations by row and column. -/
def rows (x : Vec Ideal S32x4096 .f32) (i : Fin 32) (k : Fin 4096) : EReal := x (ix2 i k)

/-- A block's largest magnitude. -/
theorem amax_apply (x : Vec Ideal S32x4096 .f32) (i : Fin 32) (g : Fin 128) :
    k0_pay2 x (ix2 g i) = blockMax fun k => rows x i (blk g k) := by
  pointwise [k0_pay2, k0_pay1]
  rw [ofBits_bot]
  rfl

/-- A block's exponent. -/
theorem expos_apply (x : Vec Ideal S32x4096 .f32) (i : Fin 32) (g : Fin 128) :
    expos x (ix2 g i) = BitVec.ofInt 32 (expoAt (rows x) i g) := by
  unfold expos expoAt
  rw [expoV_apply _ _ (by rw [amax_apply]; exact blockMax_nonneg _), amax_apply]

/-- The power of two a block is scaled by. -/
theorem inv_apply (x : Vec Ideal S32x4096 .f32) (i : Fin 32) (g : Fin 128) :
    pow2V (F := Ideal) (subi (broadcast S128x32 0#32) (expos x)) (ix2 g i) = pw (-(expoAt (rows x) i g)) := by
  have h1 := expoZ_ge (blockMax fun k => rows x i (blk g k))
  have h2 := expoZ_le (blockMax fun k => rows x i (blk g k))
  refine pow2V_apply _ _ _ ?_ (by unfold expoAt; omega) (by unfold expoAt; omega)
  show IntOp.subi 0#32 (expos x (ix2 g i)) = _
  rw [expos_apply, neg_word]

/-- A clipped activation, by its column. -/
theorem clipped_read (x : Vec Ideal S32x4096 .f32) (i : Fin 32) (k : Fin 4096) :
    clipped x (ix2 i k) = min (Ideal.ofBits .f32 0x43E00000#32) (max (Ideal.ofBits .f32 0xC3E00000#32)
      (x (ix2 i k) * pow2V (F := Ideal) (subi (broadcast S128x32 0#32) (expos x)) (ix2 ⟨k.val / 32, by omega⟩ i) : EReal)) := by
  pointwise [clipped, k0_pay1]

/-- A clipped activation, by its block. -/
theorem clipped_apply (x : Vec Ideal S32x4096 .f32) (i : Fin 32) (g : Fin 128) (k : Fin 32) :
    clipped x (ix2 i (blk g k)) = codeAt (rows x) i g k := by
  have hg : (⟨(blk g k).val / 32, by have := (blk g k).isLt; omega⟩ : Fin 128) = g := by
    apply Fin.ext; show (g.val * 32 + k.val) / 32 = g.val; omega
  rw [clipped_read, hg, inv_apply]
  rfl

/-- A scale's byte. -/
theorem scales_apply (x : Vec Ideal S32x4096 .f32) (i : Fin 32) (g : Fin 128) :
    scalesOf x (ix2 i g) = scaleAt (rows x) i g := by
  have h : scalesOf x (ix2 i g) = BitVec.setWidth 8 (IntOp.addi (expos x (ix2 g i)) 127#32) := by
    pointwise [scalesOf, biased]
  rw [h, expos_apply]
  rfl

/-- A code. -/
theorem codes_apply (x : Vec Ideal S32x4096 .f32) (i : Fin 32) (g : Fin 128) (k : Fin 32) :
    codesOf x (ix2 i (blk g k)) = codeAt (rows x) i g k := clipped_apply x i g k

/-- The biased exponents at an index. -/
theorem biased_read (x : Vec Ideal S32x4096 .f32) (i : Fin 32) (g : Fin 128) :
    biased x (ix2 i g) = IntOp.addi (expos x (ix2 g i)) 127#32 := by
  pointwise [biased]

/-- A scale decoded. -/
theorem sxAll_apply (x : Vec Ideal S32x4096 .f32) (i : Fin 32) (g : Fin 128) :
    sxAll x (ix2 i g) = scalePow (scaleAt (rows x) i g) := by
  unfold sxAll
  apply pow2V_scale
  show IntOp.subi (IntOp.andi (biased x (ix2 i g)) 255#32) 127#32 = _
  rw [low_byte, biased_read, expos_apply]
  rfl

/-- The weights' scales decoded. -/
theorem sw_apply (s : Vec Ideal S128x512 .i8) (g : Fin 128) (n : Fin 512) : swOf s (ix2 g n) = scalePow (s (ix2 g n)) := by
  have h : swOf s = shapeCast S128x512 (pow2V (F := Ideal) (subi (extui 32 s natLt_8_32) (broadcast S128x512 127#32))) shapeCasts_S128x512_S128x512 := by
    unfold swOf k0_pay362 pow2V; rfl
  have hc : ∀ V : FVec Ideal S128x512 .f32, shapeCast S128x512 V shapeCasts_S128x512_S128x512 (ix2 g n) = V (ix2 g n) := fun V => by pointwise
  rw [h, hc]
  exact pow2V_scale _ _ _ rfl

/-- A lane's block inside its tile, as the mask computes it. -/
theorem lane_block (l : Fin 256) (i : Fin 32) : k0_pay194 (ix2 i l) = BitVec.ofNat 32 (l.val / 32) := by
  pointwise [k0_pay194]
  revert l
  decide +kernel

/-- The masked tile of block `g` at a row and a lane. -/
theorem lhsPiece_read (x : Vec Ideal S32x4096 .f32) (g : ℕ) (i : Fin 32) (l : Fin 256) :
    (lhsPiece x g).2 (ix3 0 i l) = (if l.val / 32 = g % 8 then clipped x (ix2 i ⟨256 * (g / 8 % 16) + l.val, by omega⟩) else (0 : EReal)) := by
  have h : (lhsPiece x g).2 (ix3 0 i l) = Scalar.select (IntOp.cmpi .eq (k0_pay194 (ix2 i l)) (BitVec.ofNat 32 (g % 8)))
      (clipped x (ix2 i ⟨256 * (g / 8 % 16) + l.val, by omega⟩)) (0 : EReal) := by
    pointwise [lhsPiece]
  rw [h, lane_block]
  have hc : IntOp.cmpi .eq (BitVec.ofNat 32 (l.val / 32)) (BitVec.ofNat 32 (g % 8)) = BitVec.ofBool (decide (l.val / 32 = g % 8)) := by
    have e : ∀ a b : Fin 8, IntOp.cmpi .eq (BitVec.ofNat 32 a.val) (BitVec.ofNat 32 b.val) = BitVec.ofBool (decide (a.val = b.val)) := by decide
    exact e ⟨l.val / 32, by omega⟩ ⟨g % 8, by omega⟩
  rw [hc]
  by_cases hl : l.val / 32 = g % 8
  · rw [decide_eq_true hl, if_pos hl]; rfl
  · rw [decide_eq_false hl, if_neg hl]; rfl

/-- The repeated scale of block `g` at a row. -/
theorem sxPiece_read (x : Vec Ideal S32x4096 .f32) (g : ℕ) (i : Fin 32) (l : Fin 128) :
    (sxPiece x g).2 (ix3 0 i l) = sxAll x (ix2 i ⟨g % 128, by omega⟩) := by
  pointwise [sxPiece]

/-- The blocks listed are those below the count. -/
theorem mem_blocksDown (n g : ℕ) : g ∈ blocksDown n ↔ g < n := by
  induction n with
  | zero => simp [blocksDown]
  | succ n ih => simp [blocksDown, ih]; omega

end Cert.KernelIdeal.Body

end
-- ==== Proof.Body.Product.lean ====
/- The output block at exact arithmetic, read at an index: the left operand's masked rows make each product tile's row a sum
   over one scale block, and the accumulation over the scale blocks is the plain quantised product. -/
module

public import proofs.«01_k».proof.Proof.Body.QuantVals

@[expose] public section

set_option maxRecDepth 16384

noncomputable section

namespace Cert.KernelIdeal.Body

open Idealize.ShloMosaic Idealize.ShloMosaic.Tactic Cert.KernelIdeal.Gen

/-- The left operand at every index: row `r` of tile `t` is row `r % 32` of the clipped activations in the lanes of block
    `r / 32`, and zero elsewhere. -/
def lhsAt (x : Vec Ideal S32x4096 .f32) (y : S16x256x256.Idx) : EReal :=
  if (y 2).val / 32 = (y 1).val / 32 then
    clipped x (ix2 ⟨(y 1).val % 32, Nat.mod_lt _ (by decide)⟩ ⟨256 * (y 0).val + (y 2).val, by
      have h0 : (y 0).val < 16 := (y 0).isLt
      have h2 : (y 2).val < 256 := (y 2).isLt
      omega⟩)
  else 0

/-- The left operand is its pieces. -/
theorem lhsOf_eq (x : Vec Ideal S32x4096 .f32) (y : S16x256x256.Idx) : lhsOf x y = lhsAt x y := by
  refine View.canon_apply_of_pieces (Val := Elt Ideal) (e := .fp8e4m3) (lhsAt x) ((blocksDown 128).map (lhsPiece x)) ?_ y
    (View.cover_of_tiledL (s := S16x256x256) _ S1x32x256.size (by sl_kernel_rfl) y)
  intro p hp z
  obtain ⟨g, hg, rfl⟩ := List.mem_map.1 hp
  have hg := (mem_blocksDown 128 g).1 hg
  obtain ⟨z0, z1, z2, rfl⟩ : ∃ (z0 : Fin 1) (z1 : Fin 32) (z2 : Fin 256), z = (ix3 z0 z1 z2 : S1x32x256.Idx) := ⟨z 0, z 1, z 2, eq_ix3 z⟩
  obtain rfl : z0 = 0 := Subsingleton.elim _ _
  refine (lhsPiece_read x g z1 z2).trans ?_
  have e0 : ((lhsPiece x g).1.emb (ix3 0 z1 z2 : S1x32x256.Idx) 0).val = g / 8 % 16 + 1 * 0 := rfl
  have e1 : ((lhsPiece x g).1.emb (ix3 0 z1 z2 : S1x32x256.Idx) 1).val = 32 * (g % 8) + 1 * z1.val := rfl
  have e2 : ((lhsPiece x g).1.emb (ix3 0 z1 z2 : S1x32x256.Idx) 2).val = 0 + 1 * z2.val := rfl
  unfold lhsAt
  have hi : ((lhsPiece x g).1.emb (ix3 0 z1 z2 : S1x32x256.Idx) 1).val % 32 = z1.val := by rw [e1]; omega
  have hj : ((lhsPiece x g).1.emb (ix3 0 z1 z2 : S1x32x256.Idx) 1).val / 32 = g % 8 := by rw [e1]; omega
  have hl : ((lhsPiece x g).1.emb (ix3 0 z1 z2 : S1x32x256.Idx) 2).val = z2.val := by rw [e2]; omega
  have ht : ((lhsPiece x g).1.emb (ix3 0 z1 z2 : S1x32x256.Idx) 0).val = g / 8 % 16 := by rw [e0]; omega
  simp only [hi, hj, ht, hl]

/-- The repeated scales are their pieces. -/
theorem sxOf_eq (x : Vec Ideal S32x4096 .f32) (y : S128x32x128.Idx) : sxOf x y = sxAll x (ix2 (y 1) (y 0)) := by
  refine View.canon_apply_of_pieces (Val := Elt Ideal) (e := .f32) (fun y : S128x32x128.Idx => sxAll x (ix2 (y 1) (y 0)))
    ((blocksDown 128).map (sxPiece x)) ?_ y (View.cover_of_tiledL (s := S128x32x128) _ S1x32x128.size (by sl_kernel_rfl) y)
  intro p hp z
  obtain ⟨g, hg, rfl⟩ := List.mem_map.1 hp
  have hg := (mem_blocksDown 128 g).1 hg
  obtain ⟨z0, z1, z2, rfl⟩ : ∃ (z0 : Fin 1) (z1 : Fin 32) (z2 : Fin 128), z = (ix3 z0 z1 z2 : S1x32x128.Idx) := ⟨z 0, z 1, z 2, eq_ix3 z⟩
  obtain rfl : z0 = 0 := Subsingleton.elim _ _
  refine (sxPiece_read x g z1 z2).trans ?_
  have e0 : ((sxPiece x g).1.emb (ix3 0 z1 z2 : S1x32x128.Idx) 0).val = g % 128 + 1 * 0 := rfl
  have e1 : ((sxPiece x g).1.emb (ix3 0 z1 z2 : S1x32x128.Idx) 1).val = 0 + 1 * z1.val := rfl
  refine congrArg (sxAll x) ((ix2_inj _ _ _ _).2 ⟨Fin.ext ?_, Fin.ext ?_⟩)
  · show z1.val = _; rw [e1]; omega
  · show g % 128 = _; rw [e0]; omega

/-- A product of a tile by 256 rows of weights at an index. -/
theorem matmul_read (A : FVec Ideal S1x256x256 .fp8e4m3) (B : FVec Ideal S256x512 .fp8e4m3) (r : Fin 256) (n : Fin 512) :
    (matmul dot_S256x256_S256x512_S256x512_1_0_0_1_n_n none (shapeCast S256x256 A shapeCasts_S1x256x256_S256x256) B (constant S256x512 .f32 0x00000000#32) : FVec Ideal S256x512 .f32) (ix2 r n)
      = (∑ k : Fin 256, (A (ix3 0 r k) : EReal) * B (ix2 k n) : EReal) := by
  pointwise

/-- A product tile at an index: the contraction over the tile's 256 lanes. -/
theorem tileOf_apply (w : Vec Ideal S4096x512 .fp8e4m3) (l : Vec Ideal S16x256x256 .fp8e4m3) (t : ℕ) (r : Fin 256) (n : Fin 512) :
    tileOf w l t (ix2 r n) = (∑ k : Fin 256, (l (ix3 ⟨t % 16, Nat.mod_lt _ (by decide)⟩ r k) : EReal)
      * w (ix2 ⟨256 * (t % 16) + k.val, by omega⟩ n) : EReal) := by
  have hl : ∀ k : Fin 256, View.ld (Val := Elt Ideal) l (Rect.unit (s := S16x256x256) ![t % 16, 0, 0] S1x256x256.size (inb_lhs t)) (ix3 0 r k)
      = l (ix3 ⟨t % 16, Nat.mod_lt _ (by decide)⟩ r k) := fun k => by
    refine congrArg l ?_
    funext a; apply Fin.ext
    match a with
    | ⟨0, _⟩ => show t % 16 + 1 * 0 = t % 16; omega
    | ⟨1, _⟩ => show 0 + 1 * r.val = r.val; omega
    | ⟨2, _⟩ => show 0 + 1 * k.val = k.val; omega
  have hw : ∀ k : Fin 256, View.ld (Val := Elt Ideal) w (Rect.unit (s := S4096x512) ![256 * (t % 16), 0] S256x512.size (inb_w t)) (ix2 k n)
      = w (ix2 ⟨256 * (t % 16) + k.val, by omega⟩ n) := fun k => by
    refine congrArg w ?_
    funext a; apply Fin.ext
    match a with
    | ⟨0, _⟩ => show 256 * (t % 16) + 1 * k.val = 256 * (t % 16) + k.val; omega
    | ⟨1, _⟩ => show 0 + 1 * n.val = n.val; omega
  unfold tileOf
  rw [matmul_read]
  exact Finset.sum_congr rfl fun k _ => by rw [hl, hw]

/-- A sum over 256 lanes with only the lanes of block `j` kept is the sum over the block. -/
theorem sum_block (j : Fin 8) (f : Fin 256 → EReal) :
    ∑ k : Fin 256, (if k.val / 32 = j.val then f k else 0) = ∑ k : Fin 32, f ⟨32 * j.val + k.val, by omega⟩ := by
  rw [← Finset.sum_filter]
  refine Finset.sum_bij' (fun k _ => (⟨k.val % 32, Nat.mod_lt _ (by decide)⟩ : Fin 32)) (fun k _ => (⟨32 * j.val + k.val, by omega⟩ : Fin 256)) ?_ ?_ ?_ ?_ ?_
  · intro k _; exact Finset.mem_univ _
  · intro k _
    rw [Finset.mem_filter]
    exact ⟨Finset.mem_univ _, by show (32 * j.val + k.val) / 32 = j.val; omega⟩
  · intro k hk
    have h := (Finset.mem_filter.1 hk).2
    apply Fin.ext; show 32 * j.val + k.val % 32 = k.val; omega
  · intro k _
    apply Fin.ext; show (32 * j.val + k.val) % 32 = k.val; omega
  · intro k hk
    have h := (Finset.mem_filter.1 hk).2
    congr 1
    apply Fin.ext; show k.val = 32 * j.val + k.val % 32; omega

/-- The rows of scale block `g` in its product tile: the codes of the block against its weights. -/
theorem tile_block (w : Vec Ideal S4096x512 .fp8e4m3) (x : Vec Ideal S32x4096 .f32) (g : Fin 128) (i : Fin 32) (n : Fin 512) :
    tileOf w (lhsOf x) (g.val / 8) (ix2 ⟨32 * (g.val % 8) + i.val, by omega⟩ n)
      = (∑ k : Fin 32, codeAt (rows x) i g k * w (ix2 (blk g k) n) : EReal) := by
  rw [tileOf_apply]
  have hs : ∀ k : Fin 256, ((lhsOf x (ix3 ⟨g.val / 8 % 16, Nat.mod_lt _ (by decide)⟩ ⟨32 * (g.val % 8) + i.val, by omega⟩ k) : EReal)
        * w (ix2 ⟨256 * (g.val / 8 % 16) + k.val, by omega⟩ n) : EReal)
      = if k.val / 32 = (⟨g.val % 8, Nat.mod_lt _ (by decide)⟩ : Fin 8).val then
          (clipped x (ix2 i ⟨256 * (g.val / 8 % 16) + k.val, by omega⟩) * w (ix2 ⟨256 * (g.val / 8 % 16) + k.val, by omega⟩ n) : EReal) else 0 := fun k => by
    rw [lhsOf_eq]
    have h1 : (32 * (g.val % 8) + i.val) / 32 = g.val % 8 := by omega
    have h2 : (⟨(32 * (g.val % 8) + i.val) % 32, Nat.mod_lt _ (by decide)⟩ : Fin 32) = i := by apply Fin.ext; show (32 * (g.val % 8) + i.val) % 32 = i.val; omega
    unfold lhsAt
    simp only [ix3_0, ix3_1, ix3_2, h1, h2]
    split_ifs
    · rfl
    · exact zero_mul _
  rw [Finset.sum_congr rfl fun k _ => hs k, sum_block]
  refine Finset.sum_congr rfl fun k _ => ?_
  have hb : (⟨256 * (g.val / 8 % 16) + (32 * (g.val % 8) + k.val), by omega⟩ : Fin 4096) = blk g k := by
    apply Fin.ext; show 256 * (g.val / 8 % 16) + (32 * (g.val % 8) + k.val) = g.val * 32 + k.val; omega
  simp only [hb, clipped_apply]

/-- One step of the accumulation at an index. -/
theorem step_apply (A : FVec Ideal S256x512 .f32) (w : Vec Ideal S1x128 .f32) (x : Vec Ideal S1x32x128 .f32) (j : Fin 4) (g : ℕ)
    (y : FVec Ideal S32x128 .f32) (i : Fin 32) (c : Fin 128) :
    step A w x j g y (ix2 i c) = ((y (ix2 i c) : EReal) + A (ix2 ⟨32 * (g % 8) + i.val, by omega⟩ ⟨128 * j.val + c.val, by omega⟩) * w (ix2 0 c) * x (ix3 0 i c) : EReal) := by
  unfold step
  pointwise

/-- The accumulation at an index: the sum of its steps. -/
theorem chain_apply (A : ℕ → FVec Ideal S256x512 .f32) (w : ℕ → Vec Ideal S1x128 .f32) (x : ℕ → Vec Ideal S1x32x128 .f32) (j : Fin 4)
    (i : Fin 32) (c : Fin 128) (n : ℕ) :
    chain A w x j n (ix2 i c) = (∑ g ∈ Finset.range n, (A (g / 8) (ix2 ⟨32 * (g % 8) + i.val, by omega⟩ ⟨128 * j.val + c.val, by omega⟩) * w g (ix2 0 c) * x g (ix3 0 i c) : EReal) : EReal) := by
  induction n with
  | zero => exact Ideal.ofBits_zero_f32
  | succ n ih => rw [Finset.sum_range_succ, ← ih]; exact step_apply _ _ _ _ _ _ _ _

/-- A row of weights' scales, as loaded for block `g` and chunk `j`. -/
theorem swRow_apply (s : Vec Ideal S128x512 .i8) (g : Fin 128) (j : Fin 4) (c : Fin 128) :
    View.ld (Val := Elt Ideal) (e' := .f32) (swOf s) (Rect.unit (s := S128x512) ![g.val % 128, 128 * j.val] S1x128.size (inb_sw g j)) (ix2 0 c)
      = scalePow (s (ix2 g ⟨128 * j.val + c.val, by omega⟩)) := by
  refine Eq.trans (congrArg (swOf s) ?_) (sw_apply s g ⟨128 * j.val + c.val, by omega⟩)
  funext a; apply Fin.ext
  match a with
  | ⟨0, _⟩ => show g.val % 128 + 1 * 0 = g.val; omega
  | ⟨1, _⟩ => show 128 * j.val + 1 * c.val = 128 * j.val + c.val; omega

/-- The repeated scales of block `g`, as loaded. -/
theorem sxRow_apply (x : Vec Ideal S32x4096 .f32) (g : Fin 128) (i : Fin 32) (c : Fin 128) :
    View.ld (Val := Elt Ideal) (sxOf x) (Rect.unit (s := S128x32x128) ![g.val % 128, 0, 0] S1x32x128.size (inb_sx g)) (ix3 0 i c)
      = scalePow (scaleAt (rows x) i g) := by
  refine Eq.trans ((sxOf_eq x _).trans (congrArg (sxAll x) ((ix2_inj _ _ _ _).2 ⟨Fin.ext ?_, Fin.ext ?_⟩))) (sxAll_apply x i g)
  · show 0 + 1 * i.val = i.val; omega
  · show g.val % 128 + 1 * 0 = g.val; omega

/-- The bias's row added, at an index. -/
theorem bias_read (C : FVec Ideal S32x128 .f32) (B : Vec Ideal S1x128 .f32) (i : Fin 32) (c : Fin 128) :
    addf C (broadcastTo S32x128 (shapeCast S1x128 B shapeCasts_S1x128_S1x128) broadcasts_S1x128_S32x128) (ix2 i c) = ((C (ix2 i c) : EReal) + B (ix2 0 c) : EReal) := by
  pointwise

/-- The bias of chunk `j`, as loaded. -/
theorem biasRow_apply (b : Vec Ideal S1x512 .f32) (j : Fin 4) (c : Fin 128) :
    View.ld (Val := Elt Ideal) b (Rect.unit (s := S1x512) ![0, 128 * j.val] S1x128.size (inb_b j)) (ix2 0 c) = b (ix2 0 ⟨128 * j.val + c.val, by omega⟩) := by
  refine congrArg b ?_
  funext a; apply Fin.ext
  match a with
  | ⟨0, _⟩ => show 0 + 1 * 0 = 0; omega
  | ⟨1, _⟩ => show 128 * j.val + 1 * c.val = 128 * j.val + c.val; omega

/-- A column chunk of the output block at an index. -/
theorem chunkOf_apply (w : Vec Ideal S4096x512 .fp8e4m3) (s : Vec Ideal S128x512 .i8) (b : Vec Ideal S1x512 .f32) (x : Vec Ideal S32x4096 .f32)
    (j : Fin 4) (i : Fin 32) (c : Fin 128) :
    chunkOf w s b (lhsOf x) (sxOf x) j (ix2 i c)
      = yAt (rows x) (fun k => w (ix2 k ⟨128 * j.val + c.val, by omega⟩)) (fun g => s (ix2 g ⟨128 * j.val + c.val, by omega⟩)) (b (ix2 0 ⟨128 * j.val + c.val, by omega⟩)) i := by
  unfold chunkOf yAt
  rw [bias_read, biasRow_apply, chain_apply, Finset.sum_range]
  refine congrArg (· + _) (Finset.sum_congr rfl fun g _ => ?_)
  rw [tile_block, swRow_apply, sxRow_apply, mul_right_comm]

/-- The output block at an index. -/
theorem yOf_apply (w : Vec Ideal S4096x512 .fp8e4m3) (s : Vec Ideal S128x512 .i8) (b : Vec Ideal S1x512 .f32) (x : Vec Ideal S32x4096 .f32)
    (y : S32x512.Idx) :
    yOf w s b (lhsOf x) (sxOf x) y
      = yAt (rows x) (fun k => w (ix2 k (y 1))) (fun g => s (ix2 g (y 1))) (b (ix2 0 (y 1))) (y 0) := by
  have hpiece : ∀ (j : Fin 4) (z : S32x128.Idx), (chunkPiece w s b (lhsOf x) (sxOf x) j).2 z
      = (fun y : S32x512.Idx => yAt (rows x) (fun k => w (ix2 k (y 1))) (fun g => s (ix2 g (y 1))) (b (ix2 0 (y 1))) (y 0))
        ((chunkPiece w s b (lhsOf x) (sxOf x) j).1.emb z) := fun j z => by
    obtain ⟨i, c, rfl⟩ : ∃ (i : Fin 32) (c : Fin 128), z = (ix2 i c : S32x128.Idx) := ⟨z 0, z 1, eq_ix2 z⟩
    refine (chunkOf_apply w s b x j i c).trans ?_
    have h0 : (chunkPiece w s b (lhsOf x) (sxOf x) j).1.emb (ix2 i c : S32x128.Idx) = (ix2 i ⟨128 * j.val + c.val, by omega⟩ : S32x512.Idx) := by
      funext a; apply Fin.ext
      match a with
      | ⟨0, _⟩ => show 0 + 1 * i.val = i.val; omega
      | ⟨1, _⟩ => show 128 * j.val + 1 * c.val = 128 * j.val + c.val; omega
    show _ = (fun y : S32x512.Idx => yAt (rows x) (fun k => w (ix2 k (y 1))) (fun g => s (ix2 g (y 1))) (b (ix2 0 (y 1))) (y 0))
        ((chunkPiece w s b (lhsOf x) (sxOf x) j).1.emb (ix2 i c : S32x128.Idx))
    rw [h0]
    rfl
  refine View.canon_apply_of_pieces (Val := Elt Ideal) (e := .f32)
    (fun y : S32x512.Idx => yAt (rows x) (fun k => w (ix2 k (y 1))) (fun g => s (ix2 g (y 1))) (b (ix2 0 (y 1))) (y 0))
    _ ?_ y (View.cover_of_tiledL (s := S32x512) _ S32x128.size (by sl_kernel_rfl) y)
  intro p hp z
  simp only [List.mem_cons, List.not_mem_nil, or_false] at hp
  rcases hp with rfl | rfl | rfl | rfl <;> exact hpiece _ z

end Cert.KernelIdeal.Body

end
-- ==== Proof.Body.RefVals.lean ====
/- The reference at exact arithmetic, read at an index: its three results are the plain quantised product, its codes and its
   scales' bytes. -/
module

public import proofs.«01_k».proof.Proof.Body.Scalars
public import proofs.«01_k».proof.Proof.Gen.ReferenceIdeal.Value

@[expose] public section

noncomputable section

namespace Cert.ReferenceIdeal.Body

open Idealize.ShloMosaic Cert.ReferenceIdeal.Gen
open Cert.KernelIdeal.Body (cst blk blockMax blockMax_nonneg expoAt expoZ expoZ_ge expoZ_le codeAt scaleAt yAt scalePow pw refExpo refPow refScale neg_word ofBits_bot)

/-- The activations by row and column. -/
def rows (X : Vec Ideal S32x1x4096 .f32) (i : Fin 32) (k : Fin 4096) : EReal := X (ix3 i 0 k)

/-- A block's largest magnitude, as the reference folds it. -/
theorem amax_fold (X : Vec Ideal S32x1x4096 .f32) (i : Fin 32) (g : Fin 128) :
    Finset.fold max (Ideal.ofBits .f32 0xFF800000#32) (fun x : Fin 32 => FloatOps.absf (F := Ideal) (φ := .f32) (X (ix3 i 0 ⟨g.val * 32 + x.val, by omega⟩))) Finset.univ
      = blockMax fun k => rows X i (blk g k) := by
  rw [ofBits_bot]
  rfl

/-- The named constant is the logarithm of two. -/
theorem ln2_named : (Named.named κ "ln2" 0x3F317218#32 : Ideal .f32) = ((Real.log 2 : ℝ) : EReal) := rfl

/-- A block's exponent. -/
theorem expos_apply (X : Vec Ideal S32x1x4096 .f32) (i : Fin 32) (g : Fin 128) :
    k0_pay2 X (ix3 i g 0) = BitVec.ofInt 32 (expoAt (rows X) i g) := by
  refine Eq.trans ?_ (refExpo (blockMax fun k => rows X i (blk g k)) (blockMax_nonneg _))
  rw [← amax_fold, ← ln2_named]
  pointwise [k0_pay2, k0_pay1, cst]

/-- A scaled activation kept above the least code. -/
theorem scaled_apply (X : Vec Ideal S32x1x4096 .f32) (i : Fin 32) (g : Fin 128) (k : Fin 32) :
    k0_pay3 X (ix3 i g k) = (max (Ideal.ofBits .f32 0xC3E00000#32) (rows X i (blk g k) * pw (-(expoAt (rows X) i g))) : EReal) := by
  have h1 := expoZ_ge (blockMax fun k => rows X i (blk g k))
  have h2 := expoZ_le (blockMax fun k => rows X i (blk g k))
  have h : k0_pay3 X (ix3 i g k) = (max (Ideal.ofBits .f32 0xC3E00000#32) (rows X i (blk g k) *
      Scalar.select (IntOp.cmpi .sgt (IntOp.subi 0#32 (k0_pay2 X (ix3 i g 0))) 127#32) (Ideal.ofBits .f32 0x7F800000#32)
        (FloatOps.exp2 (F := Ideal) (φ := .f32) (FloatOps.sitofp (F := Ideal) .f32 (IntOp.subi 0#32 (k0_pay2 X (ix3 i g 0)))))) : EReal) := by
    pointwise [k0_pay3, k0_pay1]
    rfl
  rw [h, expos_apply, neg_word, refPow _ _ rfl (by unfold expoAt; omega) (by unfold expoAt; omega)]

/-- The codes' result. -/
theorem codes_apply (X : Vec Ideal S32x1x4096 .f32) (i : Fin 32) (g : Fin 128) (k : Fin 32) :
    k0_pay7 (Scalar.ofBits .f32 0x43E00000#32) (k0_pay3 X) (ix2 i (blk g k)) = codeAt (rows X) i g k := by
  have h : ∀ (c : Ideal .f32) (A : FVec Ideal S32x128x32 .f32) (n : Fin 4096),
      k0_pay7 c A (ix2 i n) = (min c (A (ix3 i ⟨n.val / 32, by omega⟩ ⟨n.val % 32, by omega⟩)) : EReal) := fun c A n => by
    pointwise [k0_pay7, k0_pay4]
  have hg : (⟨(blk g k).val / 32, by have := (blk g k).isLt; omega⟩ : Fin 128) = g := by
    apply Fin.ext; show (g.val * 32 + k.val) / 32 = g.val; omega
  have hk : (⟨(blk g k).val % 32, by omega⟩ : Fin 32) = k := by
    apply Fin.ext; show (g.val * 32 + k.val) % 32 = k.val; omega
  rw [h, hg, hk, scaled_apply]
  rfl

/-- The scales' result. -/
theorem scales_apply (X : Vec Ideal S32x1x4096 .f32) (i : Fin 32) (g : Fin 128) :
    k0_pay5 (k0_pay2 X) (ix2 i g) = scaleAt (rows X) i g := by
  have h : ∀ A : IVec S32x128x1 32, k0_pay5 A (ix2 i g) = BitVec.setWidth 8 (IntOp.addi (A (ix3 i g 0)) 127#32) := fun A => by
    pointwise [k0_pay5]
  rw [h, expos_apply]
  rfl

/-- The product's result, over any exponents and scaled activations. -/
theorem y_read (E : IVec S32x128x1 32) (c : Ideal .f32) (A : FVec Ideal S32x128x32 .f32) (w : Vec Ideal S4096x4096 .fp8e4m3) (s : Vec Ideal S128x4096 .i8)
    (b : Vec Ideal S4096 .f32) (i : Fin 32) (n : Fin 4096) :
    k0_pay6 E c A w s b (ix2 i n) = ((∑ g, (∑ k, (min c (A (ix3 i g k)) : EReal) * w (ix2 (blk g k) n)) * scalePow (BitVec.setWidth 8 (IntOp.addi (E (ix3 i g 0)) 127#32))
      * scalePow (s (ix2 g n))) + b (ix1 n) : EReal) := by
  simp only [← refScale]
  pointwise [k0_pay6, k0_pay5, k0_pay4]
  rfl

/-- The product's result. -/
theorem y_apply (X : Vec Ideal S32x1x4096 .f32) (w : Vec Ideal S4096x4096 .fp8e4m3) (s : Vec Ideal S128x4096 .i8) (b : Vec Ideal S4096 .f32) (i : Fin 32) (n : Fin 4096) :
    k0_pay6 (k0_pay2 X) (Scalar.ofBits .f32 0x43E00000#32) (k0_pay3 X) w s b (ix2 i n)
      = yAt (rows X) (fun k => w (ix2 k n)) (fun g => s (ix2 g n)) (b (ix1 n)) i := by
  rw [y_read]
  simp only [scaled_apply, expos_apply]
  rfl

end Cert.ReferenceIdeal.Body

end
-- ==== Proof.Body.Equation.lean ====
/- The kernel against the reference at exact arithmetic: from equal arguments the two runs leave equal products, codes and
   scales. -/
module

public import proofs.«01_k».proof.Defs
public import proofs.«01_k».proof.Proof.Body.Run
public import proofs.«01_k».proof.Proof.Body.Product
public import proofs.«01_k».proof.Proof.Body.RefVals

@[expose] public section

set_option maxRecDepth 16384

noncomputable section

namespace Cert.Equation

open Idealize.ShloMosaic Idealize.ShloMosaic.TcCoe Idealize.SL.Sem
open Cert.KernelIdeal.Body (xBlk yBlk codesOf scalesOf blk col ptOf codeAt scaleAt yAt)
open Cert.KernelIdeal.Gen (iblk)

/-- The kernel's memory, at exact arithmetic. -/
abbrev KMem := (ℓ : Loc Cert.KernelIdeal.nD Cert.KernelIdeal.τ Cert.KernelIdeal.sig) → Buf (Elt Ideal) ℓ

variable (m : KMem) (c : Dev Cert.KernelIdeal.nD)

/-- The activations as launched. -/
abbrev X : Vec Ideal Cert.ReferenceIdeal.S32x1x4096 .f32 := m ((c : Thread Cert.KernelIdeal.nD Cert.KernelIdeal.τ).loc Cert.KernelIdeal.main_arg0)

/-- The weights as launched. -/
abbrev W : Vec Ideal Cert.ReferenceIdeal.S4096x4096 .fp8e4m3 := m ((c : Thread Cert.KernelIdeal.nD Cert.KernelIdeal.τ).loc Cert.KernelIdeal.main_arg1)

/-- The weights' scales as launched. -/
abbrev S : Vec Ideal Cert.ReferenceIdeal.S128x4096 .i8 := m ((c : Thread Cert.KernelIdeal.nD Cert.KernelIdeal.τ).loc Cert.KernelIdeal.main_arg2)

/-- The bias as launched. -/
abbrev B : Vec Ideal Cert.ReferenceIdeal.S4096 .f32 := m ((c : Thread Cert.KernelIdeal.nD Cert.KernelIdeal.τ).loc Cert.KernelIdeal.main_arg3)

/-- The two readings of the activations by row and column agree. -/
theorem rows_eq : Cert.KernelIdeal.Body.rows (xBlk m c) = Cert.ReferenceIdeal.Body.rows (X m c) := by
  funext i k
  exact Cert.KernelIdeal.Body.xBlk_apply m c i k

theorem hz2 : (![0, 0] : Fin 2 → Nat) = fun _ => 0 := by decide

theorem hz3 : (![0, 0, 0] : Fin 3 → Nat) = fun _ => 0 := by decide

/-- The reference's exponents, over the whole activations. -/
theorem expos_eq (a0 : Vec Ideal Cert.ReferenceIdeal.S32x1x4096 .f32) (a1 : Vec Ideal Cert.ReferenceIdeal.S4096x4096 .fp8e4m3)
    (a2 : Vec Ideal Cert.ReferenceIdeal.S128x4096 .i8) (a3 : Vec Ideal Cert.ReferenceIdeal.S4096 .f32) :
    Cert.ReferenceIdeal.Gen.k0_pay8 a0 a1 a2 a3 = Cert.ReferenceIdeal.Gen.k0_pay2 a0 := by
  unfold Cert.ReferenceIdeal.Gen.k0_pay8
  rw [View.ld_unit_zero hz3]

/-- The reference's scaled activations, over the whole activations. -/
theorem scaled_eq (a0 : Vec Ideal Cert.ReferenceIdeal.S32x1x4096 .f32) (a1 : Vec Ideal Cert.ReferenceIdeal.S4096x4096 .fp8e4m3)
    (a2 : Vec Ideal Cert.ReferenceIdeal.S128x4096 .i8) (a3 : Vec Ideal Cert.ReferenceIdeal.S4096 .f32) :
    Cert.ReferenceIdeal.Gen.k0_pay9 a0 a1 a2 a3 = Cert.ReferenceIdeal.Gen.k0_pay3 a0 := by
  unfold Cert.ReferenceIdeal.Gen.k0_pay9
  rw [View.ld_unit_zero hz3]

/-- The products agree. -/
theorem y_eq : Cert.KernelIdeal.Body.G4 m c = Cert.ReferenceIdeal.Value.G4 (X m c) (W m c) (S m c) (B m c) := by
  unfold Cert.ReferenceIdeal.Value.G4
  rw [expos_eq, scaled_eq]
  funext y
  obtain ⟨i, n, rfl⟩ : ∃ (i : Fin 32) (n : Fin 4096), y = (ix2 i n : Cert.ReferenceIdeal.S32x4096.Idx) := ⟨y 0, y 1, eq_ix2 y⟩
  refine Eq.trans ?_ (Cert.ReferenceIdeal.Body.y_apply (X m c) (W m c) (S m c) (B m c) i n).symm
  refine (Cert.KernelIdeal.Body.yOf_apply _ _ _ (xBlk m c) _).trans ?_
  have hc : col (ptOf n) ⟨n.val % 512, Nat.mod_lt _ (by decide)⟩ = n := by
    apply Fin.ext; show 512 * (n.val / 512) + n.val % 512 = n.val; omega
  have hw : ∀ k : Fin 4096, (iblk m c 1 (ptOf n) : Vec Ideal Cert.KernelIdeal.S4096x512 .fp8e4m3) (ix2 k ⟨n.val % 512, Nat.mod_lt _ (by decide)⟩) = W m c (ix2 k n) := fun k =>
    (Cert.KernelIdeal.Body.wBlk_apply m c (ptOf n) k _).trans (by rw [hc])
  have hs : ∀ g : Fin 128, (iblk m c 2 (ptOf n) : Vec Ideal Cert.KernelIdeal.S128x512 .i8) (ix2 g ⟨n.val % 512, Nat.mod_lt _ (by decide)⟩) = S m c (ix2 g n) := fun g =>
    (Cert.KernelIdeal.Body.sBlk_apply m c (ptOf n) g _).trans (by rw [hc])
  have hb : (iblk m c 3 (ptOf n) : Vec Ideal Cert.KernelIdeal.S1x512 .f32) (ix2 0 ⟨n.val % 512, Nat.mod_lt _ (by decide)⟩) = B m c (ix1 n) :=
    (Cert.KernelIdeal.Body.bBlk_apply m c (ptOf n) _).trans (by rw [hc])
  rw [rows_eq, ← hb, ← funext hw, ← funext hs]
  rfl

/-- The codes agree. -/
theorem codes_eq : codesOf (xBlk m c) = Cert.ReferenceIdeal.Value.G5 (X m c) (W m c) (S m c) (B m c) := by
  unfold Cert.ReferenceIdeal.Value.G5
  rw [scaled_eq]
  funext y
  obtain ⟨i, n, rfl⟩ : ∃ (i : Fin 32) (n : Fin 4096), y = (ix2 i n : Cert.ReferenceIdeal.S32x4096.Idx) := ⟨y 0, y 1, eq_ix2 y⟩
  obtain ⟨g, k, rfl⟩ : ∃ (g : Fin 128) (k : Fin 32), n = blk g k :=
    ⟨⟨n.val / 32, by omega⟩, ⟨n.val % 32, Nat.mod_lt _ (by decide)⟩, Fin.ext (show n.val = n.val / 32 * 32 + n.val % 32 by omega)⟩
  exact (Cert.KernelIdeal.Body.codes_apply (xBlk m c) i g k).trans
    ((by rw [rows_eq] : codeAt (Cert.KernelIdeal.Body.rows (xBlk m c)) i g k = codeAt (Cert.ReferenceIdeal.Body.rows (X m c)) i g k).trans
      (Cert.ReferenceIdeal.Body.codes_apply (X m c) i g k).symm)

/-- The scales agree. -/
theorem scales_eq : scalesOf (xBlk m c) = Cert.ReferenceIdeal.Value.G6 (X m c) (W m c) (S m c) (B m c) := by
  unfold Cert.ReferenceIdeal.Value.G6
  rw [expos_eq]
  funext y
  obtain ⟨i, g, rfl⟩ : ∃ (i : Fin 32) (g : Fin 128), y = (ix2 i g : Cert.ReferenceIdeal.S32x128.Idx) := ⟨y 0, y 1, eq_ix2 y⟩
  exact (Cert.KernelIdeal.Body.scales_apply (xBlk m c) i g).trans
    ((by rw [rows_eq] : scaleAt (Cert.KernelIdeal.Body.rows (xBlk m c)) i g = scaleAt (Cert.ReferenceIdeal.Body.rows (X m c)) i g).trans
      (Cert.ReferenceIdeal.Body.scales_apply (X m c) i g).symm)

/-- The claim: equal arguments give equal results, and neither run changes its arguments. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => Cert.KernelIdeal.Body.G4 m c, fun c => codesOf (xBlk m c), fun c => scalesOf (xBlk m c), Cert.KernelIdeal.Body.run m g, ?_⟩
  refine (θ_run _ _ _).mono (fun r h c => ?_) (Cert.ReferenceIdeal.Value.run m' g')
  obtain ⟨h0, h1, h2, k⟩ := h c
  obtain ⟨e0, e1, e2, e3⟩ := hm c
  refine ⟨h0.trans ?_, h1.trans ?_, h2.trans ?_, k⟩
  · refine Eq.trans ?_ (y_eq m c).symm
    exact congr (congr (congr (congrArg Cert.ReferenceIdeal.Value.G4 e0) e1) e2) e3
  · refine Eq.trans ?_ (codes_eq m c).symm
    exact congr (congr (congr (congrArg Cert.ReferenceIdeal.Value.G5 e0) e1) e2) e3
  · refine Eq.trans ?_ (scales_eq m c).symm
    exact congr (congr (congr (congrArg Cert.ReferenceIdeal.Value.G6 e0) e1) e2) e3

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.ReferenceIdeal.Value
public import proofs.«01_k».proof.Proof.BodyK.Frame
public import proofs.«01_k».proof.Proof.Body.Frame
public import proofs.«01_k».proof.Proof.Body.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Reference.Gen.facts,
    fun m ρ _ => Cert.Kernel.Body.frame m ρ, fun m ρ _ => Cert.KernelIdeal.Body.frame m ρ,
    fun m ρ _ => Cert.ReferenceIdeal.Gen.frame m ρ, fun m ρ _ => Cert.Reference.Gen.frame m ρ,
    trivial, IdealRules.named_const.statement Cert.ReferenceIdeal.κ "ln2" .f32 0x3F317218#32 ((Real.log 2 : ℝ) : EReal) rfl,
    Cert.Equation.algebraic⟩

end Cert.Proof

end
